-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_clouds [hPre_finite_clouds : Cert.Pre_finite_clouds.Facts] (m : (ℓ : Loc Cert.KernelIdeal.nD Cert.KernelIdeal.τ Cert.KernelIdeal.sig) → Buf (Elt Ideal) ℓ) : Prop :=
  ∀ c : Dev Cert.KernelIdeal.nD,
    (Cert.Pre_finite_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_clouds [hPre_finite_clouds : Cert.Pre_finite_clouds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_clouds [hKernelIdeal : Cert.KernelIdeal.Facts] [hPre_finite_clouds : Cert.Pre_finite_clouds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_clouds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_clouds [hReferenceIdeal : Cert.ReferenceIdeal.Facts] [hPre_finite_clouds : Cert.Pre_finite_clouds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_clouds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_clouds [hKernelIdeal : Cert.KernelIdeal.Facts] [hReferenceIdeal : Cert.ReferenceIdeal.Facts] [hPre_finite_clouds : Cert.Pre_finite_clouds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_clouds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_clouds : Cert.Pre_finite_clouds.Facts),
    quiescent_Kernel (hKernel := hKernel)
    ∧ quiescent_KernelIdeal (hKernelIdeal := hKernelIdeal)
    ∧ quiescent_KernelIdeal_pre_finite_clouds (hKernelIdeal := hKernelIdeal) (hPre_finite_clouds := hPre_finite_clouds)
    ∧ quiescent_ReferenceIdeal (hReferenceIdeal := hReferenceIdeal)
    ∧ quiescent_ReferenceIdeal_pre_finite_clouds (hReferenceIdeal := hReferenceIdeal) (hPre_finite_clouds := hPre_finite_clouds)
    ∧ preserves_Kernel_KernelIdeal
    ∧ algebraic_KernelIdeal_ReferenceIdeal_pre_finite_clouds (hKernelIdeal := hKernelIdeal) (hReferenceIdeal := hReferenceIdeal) (hPre_finite_clouds := hPre_finite_clouds)
-- ==== Pre_finite_clouds.lean ====
abbrev S8x3x2048 : Shape := ⟨3, ![8, 3, 2048]⟩
abbrev S8x29x2048 : Shape := ⟨3, ![8, 29, 2048]⟩
abbrev S8x64 : Shape := ⟨2, ![8, 64]⟩
abbrev S96x128 : Shape := ⟨2, ![96, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S8x3x2048 : S_.BroadcastsInDim S8x3x2048 (![] : Fin 0 → Fin S8x3x2048.rank)
  reducesTo_S8x3x2048_S_d0_1_2 : S8x3x2048.ReducesTo [0, 1, 2] S_
  h_S_ : 0 < S_.numel
  bcast_S_S8x29x2048 : S_.BroadcastsInDim S8x29x2048 (![] : Fin 0 → Fin S8x29x2048.rank)
  reducesTo_S8x29x2048_S_d0_1_2 : S8x29x2048.ReducesTo [0, 1, 2] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S8x3x2048 .f32) (main_arg1 : FVec F S8x29x2048 .f32) (main_arg2 : FVec F S8x64 .f32) (main_arg3 : FVec F S96x128 .f32) (main_arg4 : FVec F S128 .f32) (main_arg5 : FVec F S128x32 .f32) (main_arg6 : FVec F S32 .f32) : IVec S_ 1 :=
  let main_v0 : FVec F S8x3x2048 .f32 := Host.absf main_arg0
  let main_cst : FVec F S_ .f32 := constant S_ .f32 0x7F800000#32
  let main_v1 : FVec F S8x3x2048 .f32 := broadcastInDim S8x3x2048 ![] bcast_S_S8x3x2048 main_cst
  let main_v2 : IVec S8x3x2048 1 := cmpf .olt main_v0 main_v1
  let main_c : IVec S_ 1 := constantI S_ 1 1#1
  let main_v3 : IVec S_ 1 := (fun x v => Host.reduce IntOp.andi x v reducesTo_S8x3x2048_S_d0_1_2 h_S_) main_v2 main_c
  let main_v4 : FVec F S8x29x2048 .f32 := Host.absf main_arg1
  let main_cst_0 : FVec F S_ .f32 := constant S_ .f32 0x7F800000#32
  let main_v5 : FVec F S8x29x2048 .f32 := broadcastInDim S8x29x2048 ![] bcast_S_S8x29x2048 main_cst_0
  let main_v6 : IVec S8x29x2048 1 := cmpf .olt main_v4 main_v5
  let main_c_1 : IVec S_ 1 := constantI S_ 1 1#1
  let main_v7 : IVec S_ 1 := (fun x v => Host.reduce IntOp.andi x v reducesTo_S8x29x2048_S_d0_1_2 h_S_) main_v6 main_c_1
  let main_v8 : IVec S_ 1 := andi main_v3 main_v7
  let main_v9 : FVec F S128x32 .f32 := Host.absf main_arg5
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S8x3x2048 : Shape := ⟨3, ![8, 3, 2048]⟩
abbrev S8x29x2048 : Shape := ⟨3, ![8, 29, 2048]⟩
abbrev S8x64 : Shape := ⟨2, ![8, 64]⟩
abbrev S96x128 : Shape := ⟨2, ![96, 128]⟩
abbrev S128 : Shape := ⟨1, ![128]⟩
abbrev S128x32 : Shape := ⟨2, ![128, 32]⟩
abbrev S32 : Shape := ⟨1, ![32]⟩
abbrev S8x32x2048 : Shape := ⟨3, ![8, 32, 2048]⟩
abbrev S8x64x1 : Shape := ⟨3, ![8, 64, 1]⟩
abbrev S128x96 : Shape := ⟨2, ![128, 96]⟩
abbrev S128x1 : Shape := ⟨2, ![128, 1]⟩
abbrev S32x128 : Shape := ⟨2, ![32, 128]⟩
abbrev S32x1 : Shape := ⟨2, ![32, 1]⟩
abbrev S8x128x1 : Shape := ⟨3, ![8, 128, 1]⟩
abbrev S4x32x2048 : Shape := ⟨3, ![4, 32, 2048]⟩
abbrev S4x3x2048 : Shape := ⟨3, ![4, 3, 2048]⟩
abbrev S4x64x1 : Shape := ⟨3, ![4, 64, 1]⟩
abbrev S4x29x2048 : Shape := ⟨3, ![4, 29, 2048]⟩
abbrev S4x128x1 : Shape := ⟨3, ![4, 128, 1]⟩
abbrev S1x32x2048 : Shape := ⟨3, ![1, 32, 2048]⟩
abbrev S32x2048 : Shape := ⟨2, ![32, 2048]⟩
abbrev S1x3x2048 : Shape := ⟨3, ![1, 3, 2048]⟩
abbrev S3x2048 : Shape := ⟨2, ![3, 2048]⟩
abbrev S1x64x1 : Shape := ⟨3, ![1, 64, 1]⟩
abbrev S64x1 : Shape := ⟨2, ![64, 1]⟩
abbrev S96x1 : Shape := ⟨2, ![96, 1]⟩
abbrev S1x128x1 : Shape := ⟨3, ![1, 128, 1]⟩
abbrev S1x2048 : Shape := ⟨2, ![1, 2048]⟩
abbrev S33x2048 : Shape := ⟨2, ![33, 2048]⟩
abbrev S2048 : Shape := ⟨1, ![2048]⟩
abbrev S5x2048 : Shape := ⟨2, ![5, 2048]⟩
abbrev S15x2048 : Shape := ⟨2, ![15, 2048]⟩
abbrev S33x512 : Shape := ⟨2, ![33, 512]⟩
abbrev S15x512 : Shape := ⟨2, ![15, 512]⟩
abbrev S512x512 : Shape := ⟨2, ![512, 512]⟩
abbrev S15x1024 : Shape := ⟨2, ![15, 1024]⟩
abbrev S1024x512 : Shape := ⟨2, ![1024, 512]⟩
abbrev S33x1024 : Shape := ⟨2, ![33, 1024]⟩
abbrev S15x1536 : Shape := ⟨2, ![15, 1536]⟩
abbrev S1536x512 : Shape := ⟨2, ![1536, 512]⟩
abbrev S33x1536 : Shape := ⟨2, ![33, 1536]⟩
abbrev S2048x512 : Shape := ⟨2, ![2048, 512]⟩
abbrev S64x2048 : Shape := ⟨2, ![64, 2048]⟩
abbrev S128x2048 : Shape := ⟨2, ![128, 2048]⟩
abbrev S384x2048 : Shape := ⟨2, ![384, 2048]⟩
abbrev S32x384 : Shape := ⟨2, ![32, 384]⟩
abbrev S29x2048 : Shape := ⟨2, ![29, 2048]⟩
abbrev S1x29x2048 : Shape := ⟨3, ![1, 29, 2048]⟩

abbrev nBuf : Space → Nat
  | .hbm => 18
  | .vmem => 16
  | .smem => 0
  | _ => 0

abbrev bufTy : (tb : Table) → Fin (tcTables nBuf tb) → BufTy
  | .hbm, ⟨0, _⟩ => ⟨S8x3x2048, .f32⟩
  | .hbm, ⟨1, _⟩ => ⟨S8x29x2048, .f32⟩
  | .hbm, ⟨2, _⟩ => ⟨S8x64, .f32⟩
  | .hbm, ⟨3, _⟩ => ⟨S96x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S8x32x2048, .f32⟩
  | .hbm, ⟨8, _⟩ => ⟨S8x64x1, .f32⟩
  | .hbm, ⟨9, _⟩ => ⟨S128x96, .f32⟩
  | .hbm, ⟨10, _⟩ => ⟨S128x1, .f32⟩
  | .hbm, ⟨11, _⟩ => ⟨S32x128, .f32⟩
  | .hbm, ⟨12, _⟩ => ⟨S32x1, .f32⟩
  | .hbm, ⟨13, _⟩ => ⟨S8x3x2048, .f32⟩
  | .hbm, ⟨14, _⟩ => ⟨S8x29x2048, .f32⟩
  | .hbm, ⟨15, _⟩ => ⟨S8x128x1, .f32⟩
  | .hbm, ⟨16, _⟩ => ⟨S8x64x1, .f32⟩
  | .hbm, ⟨17, _⟩ => ⟨S8x64, .f32⟩
  | .local _ .vmem, ⟨0, _⟩ => ⟨S4x32x2048, .f32⟩
  | .local _ .vmem, ⟨1, _⟩ => ⟨S4x32x2048, .f32⟩
  | .local _ .vmem, ⟨2, _⟩ => ⟨S4x3x2048, .f32⟩
  | .local _ .vmem, ⟨3, _⟩ => ⟨S4x3x2048, .f32⟩
  | .local _ .vmem, ⟨4, _⟩ => ⟨S4x64x1, .f32⟩
  | .local _ .vmem, ⟨5, _⟩ => ⟨S4x64x1, .f32⟩
  | .local _ .vmem, ⟨6, _⟩ => ⟨S128x96, .f32⟩
  | .local _ .vmem, ⟨7, _⟩ => ⟨S128x1, .f32⟩
  | .local _ .vmem, ⟨8, _⟩ => ⟨S32x128, .f32⟩
  | .local _ .vmem, ⟨9, _⟩ => ⟨S32x1, .f32⟩
  | .local _ .vmem, ⟨10, _⟩ => ⟨S4x3x2048, .f32⟩
  | .local _ .vmem, ⟨11, _⟩ => ⟨S4x3x2048, .f32⟩
  | .local _ .vmem, ⟨12, _⟩ => ⟨S4x29x2048, .f32⟩
  | .local _ .vmem, ⟨13, _⟩ => ⟨S4x29x2048, .f32⟩
  | .local _ .vmem, ⟨14, _⟩ => ⟨S4x128x1, .f32⟩
  | .local _ .vmem, ⟨15, _⟩ => ⟨S4x128x1, .f32⟩
  | _, _ => ⟨S8x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x3x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x29x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x3x2048 : Shape := ⟨3, ![8, 3, 2048]⟩
abbrev S8x29x2048 : Shape := ⟨3, ![8, 29, 2048]⟩
abbrev S8x64 : Shape := ⟨2, ![8, 64]⟩
abbrev S96x128 : Shape := ⟨2, ![96, 128]⟩
abbrev S128 : Shape := ⟨1, ![128]⟩
abbrev S128x32 : Shape := ⟨2, ![128, 32]⟩
abbrev S32 : Shape := ⟨1, ![32]⟩
abbrev S8x32x2048 : Shape := ⟨3, ![8, 32, 2048]⟩
abbrev S_ : Shape := ⟨0, ![]⟩
abbrev S8x32 : Shape := ⟨2, ![8, 32]⟩
abbrev S8x96 : Shape := ⟨2, ![8, 96]⟩
abbrev S8x128 : Shape := ⟨2, ![8, 128]⟩
abbrev S1x128 : Shape := ⟨2, ![1, 128]⟩
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S8x2048x2048 : Shape := ⟨3, ![8, 2048, 2048]⟩
abbrev S8x2048x32 : Shape := ⟨3, ![8, 2048, 32]⟩
abbrev S8x2048 : Shape := ⟨2, ![8, 2048]⟩
abbrev S8x2048x1 : Shape := ⟨3, ![8, 2048, 1]⟩
abbrev S8x1x64 : Shape := ⟨3, ![8, 1, 64]⟩
abbrev S8x2048x64 : Shape := ⟨3, ![8, 2048, 64]⟩
abbrev S8x2048x128 : Shape := ⟨3, ![8, 2048, 128]⟩
abbrev S1x1x32 : Shape := ⟨3, ![1, 1, 32]⟩
abbrev S8x2048x29 : Shape := ⟨3, ![8, 2048, 29]⟩

abbrev nBuf : Space → Nat
  | .hbm => 53
  | .vmem => 0
  | .smem => 0
  | _ => 0

abbrev bufTy : (tb : Table) → Fin (tcTables nBuf tb) → BufTy
  | .hbm, ⟨0, _⟩ => ⟨S8x3x2048, .f32⟩
  | .hbm, ⟨1, _⟩ => ⟨S8x29x2048, .f32⟩
  | .hbm, ⟨2, _⟩ => ⟨S8x64, .f32⟩
  | .hbm, ⟨3, _⟩ => ⟨S96x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S8x32x2048, .f32⟩
  | .hbm, ⟨8, _⟩ => ⟨S_, .f32⟩
  | .hbm, ⟨9, _⟩ => ⟨S8x32, .f32⟩
  | .hbm, ⟨10, _⟩ => ⟨S8x96, .f32⟩
  | .hbm, ⟨11, _⟩ => ⟨S8x128, .f32⟩
  | .hbm, ⟨12, _⟩ => ⟨S1x128, .f32⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S8x64, .f32⟩
  | .hbm, ⟨17, _⟩ => ⟨S8x64, .f32⟩
  | .hbm, ⟨18, _⟩ => ⟨S8x2048x3, .f32⟩
  | .hbm, ⟨19, _⟩ => ⟨S8x2048x1x3, .f32⟩
  | .hbm, ⟨20, _⟩ => ⟨S8x1x2048x3, .f32⟩
  | .hbm, ⟨21, _⟩ => ⟨S8x2048x2048x3, .f32⟩
  | .hbm, ⟨22, _⟩ => ⟨S8x2048x2048x3, .f32⟩
  | .hbm, ⟨23, _⟩ => ⟨S8x2048x2048x3, .f32⟩
  | .hbm, ⟨24, _⟩ => ⟨S8x2048x2048x3, .f32⟩
  | .hbm, ⟨25, _⟩ => ⟨S_, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .i1⟩
  | .hbm, ⟨30, _⟩ => ⟨S8x2048x2048, .f32⟩
  | .hbm, ⟨31, _⟩ => ⟨S8x2048x32, .f32⟩
  | .hbm, ⟨32, _⟩ => ⟨S8x2048x32, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x32, .f32⟩
  | .hbm, ⟨40, _⟩ => ⟨S8x2048x32, .f32⟩
  | .hbm, ⟨41, _⟩ => ⟨S8x1x64, .f32⟩
  | .hbm, ⟨42, _⟩ => ⟨S8x2048x64, .f32⟩
  | .hbm, ⟨43, _⟩ => ⟨S8x2048x128, .f32⟩
  | .hbm, ⟨44, _⟩ => ⟨S8x2048x32, .f32⟩
  | .hbm, ⟨45, _⟩ => ⟨S1x1x32, .f32⟩
  | .hbm, ⟨46, _⟩ => ⟨S8x2048x32, .f32⟩
  | .hbm, ⟨47, _⟩ => ⟨S8x2048x32, .f32⟩
  | .hbm, ⟨48, _⟩ => ⟨S8x2048x32, .f32⟩
  | .hbm, ⟨49, _⟩ => ⟨S8x2048x3, .f32⟩
  | .hbm, ⟨50, _⟩ => ⟨S8x3x2048, .f32⟩
  | .hbm, ⟨51, _⟩ => ⟨S8x2048x29, .f32⟩
  | .hbm, ⟨52, _⟩ => ⟨S8x29x2048, .f32⟩
  | _, _ => ⟨S8x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proof.Frames.lean ====
/-
  The three frames: each program's run ends, leaves its arguments as it found them and every semaphore counter at zero.
  The two kernels' frames are the generated ones, whole; the reference's is read off its run.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- The kernel's frame. -/
theorem frame_kernel : Cert.quiescent_Kernel := fun m ρ _ => Cert.Kernel.Gen.frame m ρ

/-- The idealized kernel's frame. -/
theorem frame_kernelIdeal : Cert.quiescent_KernelIdeal := fun m ρ _ => Cert.KernelIdeal.Gen.frame m ρ

/-- The idealized reference's frame: its run keeps the seven arguments, and it declares no semaphore. -/
theorem frame_referenceIdeal : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The frames the algebraic claim brings with it, under its precondition. -/
theorem frame_kernelIdeal_pre [Cert.Pre_finite_clouds.Facts] : Cert.quiescent_KernelIdeal_pre_finite_clouds :=
  fun m ρ _ => frame_kernelIdeal m ρ trivial

theorem frame_referenceIdeal_pre [Cert.Pre_finite_clouds.Facts] : Cert.quiescent_ReferenceIdeal_pre_finite_clouds :=
  fun m ρ _ => frame_referenceIdeal m ρ trivial

end Cert.Proof

end
-- ==== Proof.Clouds.lean ====
/-
  One cloud of the body, stated once. The body is four clouds, one after the other, and every cloud runs the same
  operations on its own slices of the blocks. `cloudGlobal` and `cloudLocal` are that computation as a function of the
  slices; the three theorems say that what the body leaves in each output block is this function at each cloud.
-/
module

public import proofs.«01_k».proof.Proof.Gen.KernelIdeal.Frame

@[expose] public section

set_option maxRecDepth 16384

noncomputable section

namespace Cert.KernelIdeal.Cloud

open Cert.KernelIdeal Cert.KernelIdeal.Gen Idealize.ShloMosaic

variable {F : FTy → Type} [FloatOps F]

/-- The left factor of the pair scores: coordinates, half-radius term and ones, in three stacked parts. -/
def leftStack (p : Vec F S1x3x2048 .f32) : FVec F S15x2048 .bf16 := k0_pay13 (k0_pay2 p) (k0_pay9 p) k0_pay10 k0_pay11

/-- The right factor of the pair scores. -/
def rightStack (p : Vec F S1x3x2048 .f32) : FVec F S15x2048 .bf16 := k0_pay14 (k0_pay2 p) (k0_pay9 p) k0_pay10 k0_pay11

/-- A cloud's global update, as a column: the 128 values from the channels' maxima and the global features. -/
def cloudGlobal (x : Vec F S1x32x2048 .f32) (g : Vec F S1x64x1 .f32) (wg : Vec F S128x96 .f32) (bg : Vec F S128x1 .f32) :
    FVec F S128x1 .f32 := k0_pay5 x g wg bg

/-- What the local update reads: a cloud's nodes, its neighbours' means and the second half of its global update. -/
def cloudInput (x : Vec F S1x32x2048 .f32) (p : Vec F S1x3x2048 .f32) (g : Vec F S1x64x1 .f32) (wg : Vec F S128x96 .f32)
    (bg : Vec F S128x1 .f32) : FVec F S128x2048 .f32 :=
  k0_pay21 (k0_pay1 x) (k0_pay7 x g wg bg) (k0_pay8 x) (leftStack p) (rightStack p) k0_pay15 k0_pay16
    (k0_pay19 (k0_pay2 p) (k0_pay8 x) (k0_pay9 p) k0_pay10 k0_pay11)
    (k0_pay20 (k0_pay2 p) (k0_pay8 x) (k0_pay9 p) k0_pay10 k0_pay11)

/-- A cloud's local update, 32 channels by 2048 nodes. -/
def cloudLocal (x : Vec F S1x32x2048 .f32) (p : Vec F S1x3x2048 .f32) (g : Vec F S1x64x1 .f32) (wg : Vec F S128x96 .f32)
    (bg : Vec F S128x1 .f32) (wl : Vec F S32x128 .f32) (bl : Vec F S32x1 .f32) : FVec F S32x2048 .f32 :=
  k0_pay22 (k0_pay3 wl) (k0_pay4 bl) (cloudInput x p g wg bg)

/-- The first three channels of a local update, as the block's slice: the new positions. -/
def posPart (l : FVec F S32x2048 .f32) : FVec F S1x3x2048 .f32 :=
  shapeCast S1x3x2048 (extractStridedSlice S3x2048 ![0, 0] l slices_S32x2048_o0_0_S3x2048) shapeCasts_S3x2048_S1x3x2048

/-- The other 29 channels, as the block's slice: the new features. -/
def featPart (l : FVec F S32x2048 .f32) : FVec F S1x29x2048 .f32 :=
  shapeCast S1x29x2048 (extractStridedSlice S29x2048 ![3, 0] l slices_S32x2048_o3_0_S29x2048) shapeCasts_S29x2048_S1x29x2048

/-- The global update as the block's slice. -/
def globalPart (l : FVec F S128x1 .f32) : FVec F S1x128x1 .f32 := shapeCast S1x128x1 l shapeCasts_S128x1_S1x128x1

section
variable (x0 : Vec F S4x32x2048 .f32) (x1 : Vec F S4x3x2048 .f32) (x2 : Vec F S4x64x1 .f32) (x3 : Vec F S128x96 .f32)
  (x4 : Vec F S128x1 .f32) (x5 : Vec F S32x128 .f32) (x6 : Vec F S32x1 .f32)

theorem out7_pieces : out0_7 x0 x1 x2 x3 x4 x5 x6 = View.canon
    [⟨r0_20, posPart (cloudLocal (View.ld x0 r0_19) (View.ld x1 r0_20) (View.ld x2 r0_21) (View.ld x3 r0_3) (View.ld x4 r0_4) (View.ld x5 r0_5) (View.ld x6 r0_6))⟩,
     ⟨r0_15, posPart (cloudLocal (View.ld x0 r0_14) (View.ld x1 r0_15) (View.ld x2 r0_16) (View.ld x3 r0_3) (View.ld x4 r0_4) (View.ld x5 r0_5) (View.ld x6 r0_6))⟩,
     ⟨r0_10, posPart (cloudLocal (View.ld x0 r0_9) (View.ld x1 r0_10) (View.ld x2 r0_11) (View.ld x3 r0_3) (View.ld x4 r0_4) (View.ld x5 r0_5) (View.ld x6 r0_6))⟩,
     ⟨r0_1, posPart (cloudLocal (View.ld x0 r0_0) (View.ld x1 r0_1) (View.ld x2 r0_2) (View.ld x3 r0_3) (View.ld x4 r0_4) (View.ld x5 r0_5) (View.ld x6 r0_6))⟩] := by
  rfl

theorem out8_pieces : out0_8 x0 x1 x2 x3 x4 x5 x6 = View.canon
    [⟨r0_23, featPart (cloudLocal (View.ld x0 r0_19) (View.ld x1 r0_20) (View.ld x2 r0_21) (View.ld x3 r0_3) (View.ld x4 r0_4) (View.ld x5 r0_5) (View.ld x6 r0_6))⟩,
     ⟨r0_18, featPart (cloudLocal (View.ld x0 r0_14) (View.ld x1 r0_15) (View.ld x2 r0_16) (View.ld x3 r0_3) (View.ld x4 r0_4) (View.ld x5 r0_5) (View.ld x6 r0_6))⟩,
     ⟨r0_13, featPart (cloudLocal (View.ld x0 r0_9) (View.ld x1 r0_10) (View.ld x2 r0_11) (View.ld x3 r0_3) (View.ld x4 r0_4) (View.ld x5 r0_5) (View.ld x6 r0_6))⟩,
     ⟨r0_8, featPart (cloudLocal (View.ld x0 r0_0) (View.ld x1 r0_1) (View.ld x2 r0_2) (View.ld x3 r0_3) (View.ld x4 r0_4) (View.ld x5 r0_5) (View.ld x6 r0_6))⟩] := by
  rfl

theorem out9_pieces : out0_9 x0 x1 x2 x3 x4 x5 x6 = View.canon
    [⟨r0_22, globalPart (cloudGlobal (View.ld x0 r0_19) (View.ld x2 r0_21) (View.ld x3 r0_3) (View.ld x4 r0_4))⟩,
     ⟨r0_17, globalPart (cloudGlobal (View.ld x0 r0_14) (View.ld x2 r0_16) (View.ld x3 r0_3) (View.ld x4 r0_4))⟩,
     ⟨r0_12, globalPart (cloudGlobal (View.ld x0 r0_9) (View.ld x2 r0_11) (View.ld x3 r0_3) (View.ld x4 r0_4))⟩,
     ⟨r0_7, globalPart (cloudGlobal (View.ld x0 r0_0) (View.ld x2 r0_2) (View.ld x3 r0_3) (View.ld x4 r0_4))⟩] := by
  rfl

end

end Cert.KernelIdeal.Cloud

end
-- ==== Proof.Tiles.lean ====
/-
  The tiles of the pair mask, for any number of rows. The body builds its mask in four column tiles of 512 nodes, the
  tile `j` with the rows up to its own last column, and contracts every tile twice: with the tile's own columns, for all
  its rows, and with the earlier rows, for its columns. Here one tile is a function of its row count, and read at an index.
-/
module

public import proofs.«01_k».proof.Proof.Clouds
public import Idealize.ShloMosaic.Lib.Pointwise
public import Idealize.ShloMosaic.Lib.MatmulPlain
public import Idealize.ShloMosaic.Lib.IdealHost

@[expose] public section

set_option maxRecDepth 16384

noncomputable section

namespace Cert.KernelIdeal.Cloud

open Cert.KernelIdeal Cert.KernelIdeal.Gen Idealize.ShloMosaic

/-- A matrix of `R` rows and `n` columns. -/
abbrev Mat (R n : Nat) : Shape := ⟨2, ![R, n]⟩

/-- `K×M` by `K×N`, both operands contracted on their first axis. -/
def bothFirst (K M N : Nat) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

section
variable {F : FTy → Type} [FloatOps F]

/-- The mask of a tile: one where the score of the pair is positive. -/
def tileMask {n : Nat} (l : FVec F (Mat 15 n) .bf16) (r : FVec F (Mat 15 512) .bf16) : FVec F (Mat n 512) .bf16 :=
  truncf .bf16 (sitofp .f32 (extui 32 (cmpf .ogt (matmul (bothFirst 15 n 512) none l r (constant (Mat n 512) .f32 0x00000000#32))
    (broadcast (Mat n 512) (Scalar.ofBits .f32 0x00000000#32))) natLt_1_32)) bitsLt_bf16_f32

/-- What the tile's own columns bring to every row of the tile. -/
def spread {n : Nat} (x : FVec F (Mat 33 512) .bf16) (m : FVec F (Mat n 512) .bf16) : FVec F (Mat 33 n) .f32 :=
  matmul (DotDims.transposedRhs 33 512 n) none x m (constant (Mat 33 n) .f32 0x00000000#32)

/-- What the earlier rows bring to the tile's columns. -/
def gather {n : Nat} (x : FVec F (Mat 33 n) .bf16) (m : FVec F (Mat n 512) .bf16) : FVec F (Mat 33 512) .f32 :=
  matmul (DotDims.plain 33 n 512) none x m (constant (Mat 33 512) .f32 0x00000000#32)

end

theorem bothFirst_apply {K M N : Nat} (l : FVec Ideal (Mat K M) .bf16) (r : FVec Ideal (Mat K N) .bf16)
    (acc : FVec Ideal (Mat M N) .f32) (i : Fin M) (k : Fin N) :
    matmul (bothFirst K M N) none l r acc (ix2 i k) = acc (ix2 i k) + ∑ q : Fin K, l (ix2 q i) * r (ix2 q k) := by
  refine Ideal.matmul_apply₁_of (bothFirst K M N) (a := 0) rfl (K := K) rfl l r acc (ix2 i k) (fun q => ix2 q i) (fun q => ix2 q k)
    (fun q => ?_) (fun q => ?_)
  · funext a; apply Fin.ext
    match a with
    | ⟨0, _⟩ => rfl
    | ⟨1, _⟩ => rfl
  · funext a; apply Fin.ext
    match a with
    | ⟨0, _⟩ => rfl
    | ⟨1, _⟩ => rfl

theorem zeroBits : Ideal.ofBits .f32 0x00000000#32 = 0 := by
  simp [Ideal.ofBits, Ideal.ieee]

/-- The bit of a comparison, converted to a number by way of a word of 32 bits. -/
theorem bit_number (c : Prop) [Decidable c] :
    (FloatOps.sitofp (F := Ideal) .f32 (BitVec.setWidth 32 (BitVec.ofBool (decide c))) : EReal) = if c then 1 else 0 := by
  by_cases h : c <;> simp [h, FloatOps.sitofp]

theorem tileMask_apply {n : Nat} (l : FVec Ideal (Mat 15 n) .bf16) (r : FVec Ideal (Mat 15 512) .bf16) (i : Fin n) (k : Fin 512) :
    tileMask l r (ix2 i k) = if 0 < ∑ q : Fin 15, l (ix2 q i) * r (ix2 q k) then (1 : EReal) else 0 := by
  have h := bothFirst_apply l r (constant (Mat n 512) .f32 0x00000000#32) i k
  rw [← bit_number]
  show FloatOps.sitofp (F := Ideal) .f32 (BitVec.setWidth 32 (BitVec.ofBool (decide (_ < _)))) = _
  rw [show (broadcast (Mat n 512) (Scalar.ofBits (F := Ideal) .f32 0x00000000#32) (ix2 i k)) = (0 : EReal) from zeroBits, h]
  rw [show (constant (F := Ideal) (Mat n 512) .f32 0x00000000#32 (ix2 i k)) = (0 : EReal) from zeroBits, zero_add]

theorem spread_apply {n : Nat} (x : FVec Ideal (Mat 33 512) .bf16) (m : FVec Ideal (Mat n 512) .bf16) (r : Fin 33) (i : Fin n) :
    spread x m (ix2 r i) = ∑ k : Fin 512, (x (ix2 r k) * m (ix2 i k) : EReal) := by
  exact (Ideal.matmul_transposedRhs_apply none x m _ r i).trans ((congrArg (· + _) zeroBits).trans (zero_add _))

theorem gather_apply {n : Nat} (x : FVec Ideal (Mat 33 n) .bf16) (m : FVec Ideal (Mat n 512) .bf16) (r : Fin 33) (i : Fin 512) :
    gather x m (ix2 r i) = ∑ k : Fin n, (x (ix2 r k) * m (ix2 k i) : EReal) := by
  exact (Ideal.matmul_plain_apply none x m _ r i).trans ((congrArg (· + _) zeroBits).trans (zero_add _))

end Cert.KernelIdeal.Cloud
-- ==== Proof.Aggregate.lean ====
/-
  The aggregate of a cloud: the four column tiles put together. Every node's row gathers the channels of the nodes it is
  near, and the ones below them, which count those nodes.
-/
module

public import proofs.«01_k».proof.Proof.Tiles

@[expose] public section

set_option maxRecDepth 16384

noncomputable section

namespace Cert.KernelIdeal.Cloud

open Cert.KernelIdeal Cert.KernelIdeal.Gen Idealize.ShloMosaic

section
variable {F : FTy → Type} [FloatOps F]

/-- Columns `0` to `n` of the left factor against columns `off` to `off + 512` of the right one. -/
def maskTile (n off : Nat) (hn : (Mat 15 2048).Slices ![0, 0] (Mat 15 n)) (ho : (Mat 15 2048).Slices ![0, off] (Mat 15 512))
    (l r : FVec F (Mat 15 2048) .bf16) : FVec F (Mat n 512) .bf16 :=
  tileMask (extractStridedSlice (Mat 15 n) ![0, 0] l hn) (extractStridedSlice (Mat 15 512) ![0, off] r ho)

/-- The last tile has all the rows. -/
def maskTile3 (l r : FVec F (Mat 15 2048) .bf16) : FVec F (Mat 2048 512) .bf16 :=
  tileMask l (extractStridedSlice (Mat 15 512) ![0, 1536] r slices_S15x2048_o0_1536_S15x512)

def mask0 (l r : FVec F (Mat 15 2048) .bf16) := maskTile 512 0 slices_S15x2048_o0_0_S15x512 slices_S15x2048_o0_0_S15x512 l r
def mask1 (l r : FVec F (Mat 15 2048) .bf16) := maskTile 1024 512 slices_S15x2048_o0_0_S15x1024 slices_S15x2048_o0_512_S15x512 l r
def mask2 (l r : FVec F (Mat 15 2048) .bf16) := maskTile 1536 1024 slices_S15x2048_o0_0_S15x1536 slices_S15x2048_o0_1024_S15x512 l r

def own0 (x : FVec F S33x2048 .bf16) (l r : FVec F (Mat 15 2048) .bf16) : FVec F (Mat 33 512) .f32 :=
  spread (extractStridedSlice S33x512 ![0, 0] x slices_S33x2048_o0_0_S33x512) (mask0 l r)
def own1 (x : FVec F S33x2048 .bf16) (l r : FVec F (Mat 15 2048) .bf16) : FVec F (Mat 33 1024) .f32 :=
  spread (extractStridedSlice S33x512 ![0, 512] x slices_S33x2048_o0_512_S33x512) (mask1 l r)
def own2 (x : FVec F S33x2048 .bf16) (l r : FVec F (Mat 15 2048) .bf16) : FVec F (Mat 33 1536) .f32 :=
  spread (extractStridedSlice S33x512 ![0, 1024] x slices_S33x2048_o0_1024_S33x512) (mask2 l r)
def own3 (x : FVec F S33x2048 .bf16) (l r : FVec F (Mat 15 2048) .bf16) : FVec F (Mat 33 2048) .f32 :=
  spread (extractStridedSlice S33x512 ![0, 1536] x slices_S33x2048_o0_1536_S33x512) (maskTile3 l r)

def zeros : FVec F S33x512 .f32 := broadcast S33x512 (Scalar.ofBits .f32 0x00000000#32)

def chunk0 (x : FVec F S33x2048 .bf16) (l r : FVec F (Mat 15 2048) .bf16) : FVec F S33x512 .f32 :=
  addf (addf (addf (addf zeros (own0 x l r)) (extractStridedSlice S33x512 ![0, 0] (own1 x l r) slices_S33x1024_o0_0_S33x512))
    (extractStridedSlice S33x512 ![0, 0] (own2 x l r) slices_S33x1536_o0_0_S33x512))
    (extractStridedSlice S33x512 ![0, 0] (own3 x l r) slices_S33x2048_o0_0_S33x512)
def chunk1 (x : FVec F S33x2048 .bf16) (l r : FVec F (Mat 15 2048) .bf16) : FVec F S33x512 .f32 :=
  addf (addf (addf (addf zeros (extractStridedSlice S33x512 ![0, 512] (own1 x l r) slices_S33x1024_o0_512_S33x512))
    (gather (extractStridedSlice S33x512 ![0, 0] x slices_S33x2048_o0_0_S33x512)
      (extractStridedSlice S512x512 ![0, 0] (mask1 l r) slices_S1024x512_o0_0_S512x512)))
    (extractStridedSlice S33x512 ![0, 512] (own2 x l r) slices_S33x1536_o0_512_S33x512))
    (extractStridedSlice S33x512 ![0, 512] (own3 x l r) slices_S33x2048_o0_512_S33x512)
def chunk2 (x : FVec F S33x2048 .bf16) (l r : FVec F (Mat 15 2048) .bf16) : FVec F S33x512 .f32 :=
  addf (addf (addf zeros (extractStridedSlice S33x512 ![0, 1024] (own2 x l r) slices_S33x1536_o0_1024_S33x512))
    (gather (extractStridedSlice S33x1024 ![0, 0] x slices_S33x2048_o0_0_S33x1024)
      (extractStridedSlice S1024x512 ![0, 0] (mask2 l r) slices_S1536x512_o0_0_S1024x512)))
    (extractStridedSlice S33x512 ![0, 1024] (own3 x l r) slices_S33x2048_o0_1024_S33x512)
def chunk3 (x : FVec F S33x2048 .bf16) (l r : FVec F (Mat 15 2048) .bf16) : FVec F S33x512 .f32 :=
  addf (addf zeros (extractStridedSlice S33x512 ![0, 1536] (own3 x l r) slices_S33x2048_o0_1536_S33x512))
    (gather (extractStridedSlice S33x1536 ![0, 0] x slices_S33x2048_o0_0_S33x1536)
      (extractStridedSlice S1536x512 ![0, 0] (maskTile3 l r) slices_S2048x512_o0_0_S1536x512))

/-- The four tiles side by side. -/
def aggregate (x : FVec F S33x2048 .bf16) (l r : FVec F (Mat 15 2048) .bf16) : FVec F S33x2048 .f32 :=
  concatenate S33x2048 1 [⟨S33x512, chunk0 x l r⟩, ⟨S33x512, chunk1 x l r⟩, ⟨S33x512, chunk2 x l r⟩, ⟨S33x512, chunk3 x l r⟩]
    concatenates_S33x512_S33x512_S33x512_S33x512_S33x2048_d1

/-- The neighbours' means: the gathered channels over the number of neighbours, at least one. -/
def means (s : FVec F S33x2048 .f32) : FVec F S32x2048 .f32 :=
  divf (extractStridedSlice S32x2048 ![0, 0] s slices_S33x2048_o0_0_S32x2048)
    (broadcastTo S32x2048 (maximumf (extractStridedSlice S1x2048 ![32, 0] s slices_S33x2048_o32_0_S1x2048)
      (broadcast S1x2048 (Scalar.ofBits .f32 0x3F800000#32))) broadcasts_S1x2048_S32x2048)

/-- The three parts of the local update's input. -/
def stackInput (x : FVec F S32x2048 .f32) (m : FVec F S32x2048 .f32) (g : FVec F S64x1 .f32) : FVec F S128x2048 .f32 :=
  concatenate S128x2048 0 [⟨S32x2048, x⟩, ⟨S32x2048, m⟩,
    ⟨S64x2048, broadcastTo S64x2048 (shapeCast S64x1 g shapeCasts_S64x1_S64x1) broadcasts_S64x1_S64x2048⟩]
    concatenates_S32x2048_S32x2048_S64x2048_S128x2048_d0

theorem cloudInput_eq (x : Vec F S1x32x2048 .f32) (p : Vec F S1x3x2048 .f32) (g : Vec F S1x64x1 .f32) (wg : Vec F S128x96 .f32)
    (bg : Vec F S128x1 .f32) : cloudInput x p g wg bg
      = stackInput (k0_pay1 x) (means (aggregate (k0_pay8 x) (leftStack p) (rightStack p))) (k0_pay7 x g wg bg) := by
  rfl

end

end Cert.KernelIdeal.Cloud
-- ==== Proof.AggregateValue.lean ====
/-
  The aggregate read at an index. Matrices are compared with functions of two natural numbers, so that a slice is the same
  function at a shifted column, and a tile's product is a sum over a range of columns.
-/
module

public import proofs.«01_k».proof.Proof.Aggregate

@[expose] public section

set_option maxRecDepth 16384

noncomputable section

namespace Cert.KernelIdeal.Cloud

open Cert.KernelIdeal Cert.KernelIdeal.Gen Idealize.ShloMosaic
open scoped BigOperators

/-- `x` is the part of `M` that starts at column `off`. -/
def IsPart {R w : Nat} (M : ℕ → ℕ → EReal) (off : Nat) (x : (Mat R w).Idx → EReal) : Prop :=
  ∀ (r : Fin R) (k : Fin w), x (ix2 r k) = M r.val (off + k.val)

section
variable {R R' w w' n : Nat} {M X T : ℕ → ℕ → EReal} {off : Nat}

theorem IsPart.slice {x : (Mat R w).Idx → EReal} (hx : IsPart M off x) (o : Nat) (h : (Mat R w).Slices ![0, o] (Mat R' w')) :
    IsPart M (off + o) (extractStridedSlice (Mat R' w') ![0, o] x h) := by
  intro r k
  have hr : 0 + R' ≤ R := h.2 0
  have hk : o + w' ≤ w := h.2 1
  refine Eq.trans ?_ ((hx ⟨r.val, by omega⟩ ⟨o + k.val, by omega⟩).trans (by rw [Nat.add_assoc]))
  refine congrArg x ?_
  funext a; apply Fin.ext
  match a with
  | ⟨0, _⟩ => exact Nat.zero_add _
  | ⟨1, _⟩ => rfl

theorem isPart_spread {x : FVec Ideal (Mat 33 512) .bf16} {m : FVec Ideal (Mat n 512) .bf16} (hx : IsPart X off x)
    (hm : IsPart M off m) :
    IsPart (fun r i => ∑ k ∈ Finset.range 512, X r (off + k) * M i (off + k)) 0 (spread x m) := by
  intro r i
  show _ = ∑ k ∈ Finset.range 512, X r.val (off + k) * M (0 + i.val) (off + k)
  rw [spread_apply, Finset.sum_range, Nat.zero_add]
  exact Finset.sum_congr rfl fun k _ => congrArg₂ (· * ·) (hx r k) (hm i k)

theorem isPart_gather {x : FVec Ideal (Mat 33 n) .bf16} {m : FVec Ideal (Mat n 512) .bf16} (hx : IsPart X 0 x)
    (hm : IsPart M off m) :
    IsPart (fun r i => ∑ k ∈ Finset.range n, X r k * M k i) off (gather x m) := by
  intro r i
  show _ = ∑ k ∈ Finset.range n, X r.val k * M k (off + i.val)
  rw [gather_apply, Finset.sum_range]
  exact Finset.sum_congr rfl fun k _ => congrArg₂ (· * ·) ((hx r k).trans (by rw [Nat.zero_add])) (hm k i)

theorem IsPart.add {A B : ℕ → ℕ → EReal} {a b : FVec Ideal (Mat R w) .f32} (ha : IsPart A off a) (hb : IsPart B off b) :
    IsPart (fun r i => A r i + B r i) off (addf a b) :=
  fun r i => congrArg₂ (fun u v : EReal => u + v) (ha r i) (hb r i)

theorem isPart_zeros : IsPart (fun _ _ => 0) off (zeros (F := Ideal)) := fun _ _ => zeroBits

theorem IsPart.congr {x : (Mat R w).Idx → EReal} (hx : IsPart M off x) (h : ∀ r i, M r i = T r i) : IsPart T off x :=
  fun r k => (hx r k).trans (h _ _)

end

section
variable {X M : ℕ → ℕ → EReal} {x : FVec Ideal S33x2048 .bf16} {l r : FVec Ideal (Mat 15 2048) .bf16}

/-- The sum over all the nodes, from its four parts. -/
theorem sum_four (f : ℕ → EReal) : ∑ k ∈ Finset.range 2048, f k = ∑ k ∈ Finset.range 512, f k
    + ∑ k ∈ Finset.range 512, f (512 + k) + ∑ k ∈ Finset.range 512, f (1024 + k) + ∑ k ∈ Finset.range 512, f (1536 + k) := by
  rw [Finset.sum_range_add f 1536 512, Finset.sum_range_add f 1024 512, Finset.sum_range_add f 512 512]

/-- The row sums of the products: what every tile column ends at. -/
def rowSum (X M : ℕ → ℕ → EReal) : ℕ → ℕ → EReal := fun r i => ∑ k ∈ Finset.range 2048, X r k * M i k

variable (hx : IsPart X 0 x) (hsym : ∀ i k, M i k = M k i)
include hx hsym

theorem isPart_chunk0 (h0 : IsPart M 0 (mask0 l r)) (h1 : IsPart M 512 (mask1 l r)) (h2 : IsPart M 1024 (mask2 l r))
    (h3 : IsPart M 1536 (maskTile3 l r)) : IsPart (rowSum X M) 0 (chunk0 x l r) := by
  have s0 := isPart_spread (hx.slice 0 slices_S33x2048_o0_0_S33x512) h0
  have s1 := (isPart_spread ((hx.slice 512 slices_S33x2048_o0_512_S33x512)) h1).slice 0 slices_S33x1024_o0_0_S33x512
  have s2 := (isPart_spread ((hx.slice 1024 slices_S33x2048_o0_1024_S33x512)) h2).slice 0 slices_S33x1536_o0_0_S33x512
  have s3 := (isPart_spread ((hx.slice 1536 slices_S33x2048_o0_1536_S33x512)) h3).slice 0 slices_S33x2048_o0_0_S33x512
  refine ((((isPart_zeros.add s0).add s1).add s2).add s3).congr fun q i => ?_
  simp only [rowSum, sum_four, zero_add]

theorem isPart_chunk1 (h1 : IsPart M 512 (mask1 l r)) (h2 : IsPart M 1024 (mask2 l r))
    (h3 : IsPart M 1536 (maskTile3 l r)) : IsPart (rowSum X M) 512 (chunk1 x l r) := by
  have s1 := (isPart_spread ((hx.slice 512 slices_S33x2048_o0_512_S33x512)) h1).slice 512 slices_S33x1024_o0_512_S33x512
  have s2 := (isPart_spread ((hx.slice 1024 slices_S33x2048_o0_1024_S33x512)) h2).slice 512 slices_S33x1536_o0_512_S33x512
  have s3 := (isPart_spread ((hx.slice 1536 slices_S33x2048_o0_1536_S33x512)) h3).slice 512 slices_S33x2048_o0_512_S33x512
  have e := isPart_gather (hx.slice 0 slices_S33x2048_o0_0_S33x512) (h1.slice 0 slices_S1024x512_o0_0_S512x512)
  refine ((((isPart_zeros.add s1).add e).add s2).add s3).congr fun q i => ?_
  simp only [rowSum, sum_four, zero_add, hsym i]
  ac_rfl

theorem isPart_chunk2 (h2 : IsPart M 1024 (mask2 l r))
    (h3 : IsPart M 1536 (maskTile3 l r)) : IsPart (rowSum X M) 1024 (chunk2 x l r) := by
  have s2 := (isPart_spread ((hx.slice 1024 slices_S33x2048_o0_1024_S33x512)) h2).slice 1024 slices_S33x1536_o0_1024_S33x512
  have s3 := (isPart_spread ((hx.slice 1536 slices_S33x2048_o0_1536_S33x512)) h3).slice 1024 slices_S33x2048_o0_1024_S33x512
  have e := isPart_gather (hx.slice 0 slices_S33x2048_o0_0_S33x1024) (h2.slice 0 slices_S1536x512_o0_0_S1024x512)
  refine (((isPart_zeros.add s2).add e).add s3).congr fun q i => ?_
  simp only [rowSum, sum_four, zero_add, hsym i, Finset.sum_range_add _ 512 512]
  ac_rfl

theorem isPart_chunk3 (h3 : IsPart M 1536 (maskTile3 l r)) : IsPart (rowSum X M) 1536 (chunk3 x l r) := by
  have s3 := (isPart_spread ((hx.slice 1536 slices_S33x2048_o0_1536_S33x512)) h3).slice 1536 slices_S33x2048_o0_1536_S33x512
  have e := isPart_gather (hx.slice 0 slices_S33x2048_o0_0_S33x1536) (h3.slice 0 slices_S2048x512_o0_0_S1536x512)
  refine ((isPart_zeros.add s3).add e).congr fun q i => ?_
  simp only [rowSum, sum_four, zero_add, hsym i, Finset.sum_range_add _ 1024 512, Finset.sum_range_add _ 512 512]
  ac_rfl

end

/-- A vector of four tiles side by side is the function each tile is, at its own columns. -/
theorem isPart_sideBySide {T : ℕ → ℕ → EReal} {a b c d : S33x512.Idx → EReal} (ha : IsPart T 0 a) (hb : IsPart T 512 b)
    (hc : IsPart T 1024 c) (hd : IsPart T 1536 d) : IsPart T 0 (concatenate S33x2048 1 [⟨S33x512, a⟩, ⟨S33x512, b⟩, ⟨S33x512, c⟩, ⟨S33x512, d⟩]
    concatenates_S33x512_S33x512_S33x512_S33x512_S33x2048_d1) := by
  intro r k
  pointwise []
  split
  · exact (ha r ⟨k.val, by omega⟩).trans (congrArg (T r.val) (by simp))
  split
  · exact (hb r ⟨k.val - 512, by omega⟩).trans (congrArg (T r.val) (by simp; omega))
  split
  · exact (hc r ⟨k.val - 512 - 512, by omega⟩).trans (congrArg (T r.val) (by simp; omega))
  · exact (hd r ⟨k.val - 512 - 512 - 512, by omega⟩).trans (congrArg (T r.val) (by simp; omega))

section
variable (x : FVec Ideal S33x2048 .bf16) (l r : FVec Ideal (Mat 15 2048) .bf16)

/-- A matrix as a function of two natural numbers, zero outside. -/
def onNat {R w : Nat} (x : (Mat R w).Idx → EReal) : ℕ → ℕ → EReal :=
  fun r k => if h : r < R ∧ k < w then x (ix2 ⟨r, h.1⟩ ⟨k, h.2⟩) else 0

theorem isPart_onNat {R w : Nat} (x : (Mat R w).Idx → EReal) : IsPart (onNat x) 0 x := by
  intro r k
  rw [onNat, dif_pos ⟨r.isLt, (Nat.zero_add k.val).symm ▸ k.isLt⟩]
  refine congrArg x (congrArg (ix2 r) (Fin.ext (Nat.zero_add _).symm))

/-- The score of a pair of nodes. -/
def score (i k : ℕ) : EReal := ∑ q ∈ Finset.range 15, onNat l q i * onNat r q k

/-- One where the score of the pair is positive. -/
def scoreMask (i k : ℕ) : EReal := if 0 < score l r i k then 1 else 0

theorem isPart_tileMask {n off : Nat} {a : FVec Ideal (Mat 15 n) .bf16} {b : FVec Ideal (Mat 15 512) .bf16}
    (ha : IsPart (onNat l) 0 a) (hb : IsPart (onNat r) off b) : IsPart (scoreMask l r) off (tileMask a b) := by
  intro i k
  rw [tileMask_apply, scoreMask, score, Finset.sum_range]
  have e : ∑ q : Fin 15, (a (ix2 q i) * b (ix2 q k) : EReal)
      = ∑ q : Fin 15, onNat l q.val i.val * onNat r q.val (off + k.val) :=
    Finset.sum_congr rfl fun q _ => congrArg₂ (· * ·) ((ha q i).trans (by rw [Nat.zero_add])) (hb q k)
  rw [e]

/-- **The aggregate**: every row against the mask's row, summed over all the nodes — for a mask that is the same from
    either end of a pair. -/
theorem isPart_aggregate (hsym : ∀ i k, scoreMask l r i k = scoreMask l r k i) :
    IsPart (rowSum (onNat x) (scoreMask l r)) 0 (aggregate x l r) := by
  have hx := isPart_onNat x
  have hl := isPart_onNat l
  have hr := isPart_onNat r
  have h0 : IsPart (scoreMask l r) 0 (mask0 l r) := isPart_tileMask l r
    (hl.slice 0 slices_S15x2048_o0_0_S15x512) (hr.slice 0 slices_S15x2048_o0_0_S15x512)
  have h1 : IsPart (scoreMask l r) 512 (mask1 l r) := isPart_tileMask l r
    (hl.slice 0 slices_S15x2048_o0_0_S15x1024) ((hr.slice 512 slices_S15x2048_o0_512_S15x512))
  have h2 : IsPart (scoreMask l r) 1024 (mask2 l r) := isPart_tileMask l r
    (hl.slice 0 slices_S15x2048_o0_0_S15x1536) ((hr.slice 1024 slices_S15x2048_o0_1024_S15x512))
  have h3 : IsPart (scoreMask l r) 1536 (maskTile3 l r) := isPart_tileMask l r
    hl ((hr.slice 1536 slices_S15x2048_o0_1536_S15x512))
  exact isPart_sideBySide (isPart_chunk0 hx hsym h0 h1 h2 h3) (isPart_chunk1 hx hsym h1 h2 h3)
    (isPart_chunk2 hx hsym h2 h3) (isPart_chunk3 hx hsym h3)

end

end Cert.KernelIdeal.Cloud
-- ==== Proof.Scores.lean ====
/-
  The score of a pair of nodes, over coordinates that are real numbers: 32 less half the squared distance, so positive
  exactly when the squared distance is below 64.
-/
module

public import proofs.«01_k».proof.Proof.AggregateValue

@[expose] public section

set_option maxRecDepth 16384

noncomputable section

namespace Cert.KernelIdeal.Cloud

open Cert.KernelIdeal Cert.KernelIdeal.Gen Idealize.ShloMosaic
open scoped BigOperators

theorem oneBits : Ideal.ofBits .f32 0x3F800000#32 = 1 := by
  simp [Ideal.ofBits, Ideal.ieee]
  rw [← EReal.coe_mul]; norm_num

theorem halfBits : Ideal.ofBits .f32 0x3F000000#32 = ((1 / 2 : ℝ) : EReal) := by
  simp [Ideal.ofBits, Ideal.ieee]
  rw [← EReal.coe_mul]; norm_num

theorem sixteenBits : Ideal.ofBits .f32 0x41800000#32 = ((16 : ℝ) : EReal) := by
  simp [Ideal.ofBits, Ideal.ieee]
  rw [← EReal.coe_mul]; norm_num

section
variable {p : Vec Ideal S1x3x2048 .f32} {P : Fin 3 → Fin 2048 → ℝ} (hp : ∀ a i, p (ix3 0 a i) = ((P a i : ℝ) : EReal))
include hp

/-- Half of 32 less half the squared norm: a node's share of its scores. -/
def share (P : Fin 3 → Fin 2048 → ℝ) (i : Fin 2048) : ℝ := 16 - 1 / 2 * (P 0 i * P 0 i + P 1 i * P 1 i + P 2 i * P 2 i)

omit hp in
theorem share_eq (P : Fin 3 → Fin 2048 → ℝ) (i : Fin 2048) : Ideal.ofBits .f32 0x41800000#32 - Ideal.ofBits .f32 0x3F000000#32 * ∑ a : Fin 3, ((P a i : ℝ) : EReal) * ((P a i : ℝ) : EReal)
    = ((share P i : ℝ) : EReal) := by
  simp only [Fin.sum_univ_three, halfBits, sixteenBits, ← EReal.coe_mul, ← EReal.coe_add, ← EReal.coe_sub]
  rfl

theorem left_apply (q : Fin 15) (i : Fin 2048) : leftStack p (ix2 q i)
    = ((![P 0 i, P 1 i, P 2 i, share P i, 1, P 0 i, P 1 i, P 2 i, share P i, 1, 0, 0, 0, 0, 0] q : ℝ) : EReal) := by
  pointwise [leftStack, k0_pay13, k0_pay2, k0_pay9, k0_pay10, k0_pay11, k0_pay12]
  simp only [hp, share_eq P]
  fin_cases q <;> simp [← EReal.coe_sub]
  all_goals (rw [← EReal.coe_one, ← EReal.coe_sub]; simp)

theorem right_apply (q : Fin 15) (i : Fin 2048) : rightStack p (ix2 q i)
    = ((![P 0 i, P 1 i, P 2 i, 1, share P i, 0, 0, 0, 0, 0, P 0 i, P 1 i, P 2 i, 1, share P i] q : ℝ) : EReal) := by
  pointwise [rightStack, k0_pay14, k0_pay2, k0_pay9, k0_pay10, k0_pay11, k0_pay12]
  simp only [hp, share_eq P]
  fin_cases q <;> simp [← EReal.coe_sub]
  all_goals (rw [← EReal.coe_one, ← EReal.coe_sub]; simp)

/-- The squared distance of two nodes. -/
def sqDist (P : Fin 3 → Fin 2048 → ℝ) (i k : Fin 2048) : ℝ :=
  (P 0 i - P 0 k) * (P 0 i - P 0 k) + (P 1 i - P 1 k) * (P 1 i - P 1 k) + (P 2 i - P 2 k) * (P 2 i - P 2 k)

theorem score_eq (i k : Fin 2048) : score (leftStack p) (rightStack p) i.val k.val = ((32 - sqDist P i k / 2 : ℝ) : EReal) := by
  have e : ∀ q : Fin 15, onNat (leftStack p) q.val i.val * onNat (rightStack p) q.val k.val
      = leftStack p (ix2 q i) * rightStack p (ix2 q k) := fun q => by
    rw [onNat, dif_pos ⟨q.isLt, i.isLt⟩, onNat, dif_pos ⟨q.isLt, k.isLt⟩]
  rw [score, Finset.sum_range, Finset.sum_congr rfl fun q _ => e q]
  simp only [left_apply hp, right_apply hp, ← EReal.coe_mul]
  simp only [Fin.sum_univ_succ, Fin.sum_univ_zero, ← EReal.coe_add, ← EReal.coe_zero]
  congr 1
  simp [share, sqDist]
  ring

theorem scoreMask_eq (i k : Fin 2048) : scoreMask (leftStack p) (rightStack p) i.val k.val
    = if sqDist P i k < 64 then (1 : EReal) else 0 := by
  rw [scoreMask, score_eq hp]
  refine if_congr ?_ rfl rfl
  rw [← EReal.coe_zero, EReal.coe_lt_coe_iff]
  constructor <;> intro h <;> linarith

omit hp in
theorem score_outside (l r : FVec Ideal (Mat 15 2048) .bf16) (i k : ℕ) (h : ¬(i < 2048 ∧ k < 2048)) : score l r i k = 0 := by
  refine Finset.sum_eq_zero fun q hq => ?_
  by_cases hi : i < 2048
  · have hk : ¬k < 2048 := fun hk => h ⟨hi, hk⟩
    rw [onNat, onNat, dif_neg (fun c : q < 15 ∧ k < 2048 => hk c.2), mul_zero]
  · rw [onNat, dif_neg (fun c : q < 15 ∧ i < 2048 => hi c.2), zero_mul]

theorem scoreMask_symm (i k : ℕ) : scoreMask (leftStack p) (rightStack p) i k = scoreMask (leftStack p) (rightStack p) k i := by
  by_cases h : i < 2048 ∧ k < 2048
  · rw [scoreMask_eq hp ⟨i, h.1⟩ ⟨k, h.2⟩, scoreMask_eq hp ⟨k, h.2⟩ ⟨i, h.1⟩]
    refine if_congr (iff_of_eq (congrArg (· < 64) ?_)) rfl rfl
    simp only [sqDist]; ring
  · rw [scoreMask, scoreMask, score_outside _ _ i k h, score_outside _ _ k i fun c => h ⟨c.2, c.1⟩]

end

end Cert.KernelIdeal.Cloud
-- ==== Proof.Spec.lean ====
/-
  The mathematics of one cloud, as plain functions of extended real numbers: the global update, the radius mask, the
  neighbours' means and the local update. Both programs are read against these.
-/
module

public import Idealize.ShloMosaic.Lib.Pointwise

@[expose] public section

noncomputable section

namespace Cert.Proximal

open Idealize.ShloMosaic
open scoped BigOperators

/-- A value that is a real number. -/
def IsReal (x : EReal) : Prop := ∃ r : ℝ, x = (r : EReal)

namespace IsReal
theorem zero : IsReal 0 := ⟨0, rfl⟩
theorem one : IsReal 1 := ⟨1, rfl⟩
theorem add {x y : EReal} : IsReal x → IsReal y → IsReal (x + y)
  | ⟨a, ha⟩, ⟨b, hb⟩ => ⟨a + b, by rw [ha, hb, EReal.coe_add]⟩
theorem mul {x y : EReal} : IsReal x → IsReal y → IsReal (x * y)
  | ⟨a, ha⟩, ⟨b, hb⟩ => ⟨a * b, by rw [ha, hb, EReal.coe_mul]⟩
theorem sum {ι : Type} (s : Finset ι) (f : ι → EReal) (h : ∀ i, IsReal (f i)) : IsReal (∑ i ∈ s, f i) := by
  induction s using Finset.cons_induction with
  | empty => exact zero
  | cons a s ha ih => rw [Finset.sum_cons]; exact (h a).add ih
theorem sub_self {x : EReal} : IsReal x → x - x = 0
  | ⟨a, ha⟩ => by rw [ha, ← EReal.coe_sub, _root_.sub_self, EReal.coe_zero]
/-- A quotient by a real number that is at least one. -/
theorem div_max_one {x y : EReal} : IsReal x → IsReal y → IsReal (Ideal.div x (max y 1))
  | ⟨a, ha⟩, ⟨b, hb⟩ => by
    have e : max y 1 = ((max b 1 : ℝ) : EReal) := by
      rw [hb, ← EReal.coe_one]
      exact (Monotone.map_max (fun u v h => EReal.coe_le_coe_iff.2 h)).symm
    have hpos : (0 : ℝ) < max b 1 := lt_of_lt_of_le one_pos (le_max_right b 1)
    refine ⟨a * (max b 1)⁻¹, ?_⟩
    rw [Ideal.div, if_neg, e, ha, ← EReal.coe_inv, ← EReal.coe_mul]
    rw [e, ← EReal.coe_zero, EReal.coe_eq_coe_iff]
    exact hpos.ne'
theorem tanh (x : EReal) : IsReal (Ideal.tanh x) := by
  induction x with
  | bot => exact ⟨-1, by rw [EReal.coe_neg, EReal.coe_one]; rfl⟩
  | top => exact ⟨1, rfl⟩
  | coe r => exact ⟨Real.tanh r, rfl⟩
end IsReal

section
variable (chan : Fin 32 → Fin 2048 → EReal) (pos : Fin 3 → Fin 2048 → EReal) (glob : Fin 64 → EReal)
  (wg : Fin 96 → Fin 128 → EReal) (bg : Fin 128 → EReal) (wl : Fin 128 → Fin 32 → EReal) (bl : Fin 32 → EReal)

/-- A channel's largest value over the nodes. -/
def peak (a : Fin 32) : EReal := Finset.univ.fold max (Ideal.ofBits .f32 0xFF800000#32) (chan a)

/-- The global update: the channels' peaks and the global features through one linear layer. -/
def globalOut (r : Fin 128) : EReal :=
  Ideal.tanh (∑ a : Fin 32, peak chan a * wg ⟨a.val, by omega⟩ r + ∑ a : Fin 64, glob a * wg ⟨32 + a.val, by omega⟩ r + bg r)

/-- One where two nodes are closer than the radius 8, by their squared distance. -/
def near (i k : Fin 2048) : EReal :=
  if ∑ a : Fin 3, (pos a i - pos a k) * (pos a i - pos a k) < ((64 : ℝ) : EReal) then 1 else 0

/-- A channel's mean over the nodes near node `i`. -/
def nearMean (a : Fin 32) (i : Fin 2048) : EReal :=
  Ideal.div (∑ k, near pos i k * chan a k) (max (∑ k, near pos i k) 1)

/-- What the local update reads at a node. -/
def localIn (q : Fin 128) (i : Fin 2048) : EReal :=
  if h : q.val < 32 then chan ⟨q.val, h⟩ i
  else if h' : q.val - 32 < 32 then nearMean chan pos ⟨q.val - 32, h'⟩ i
  else globalOut chan glob wg bg ⟨64 + (q.val - 32 - 32), by omega⟩

/-- The local update. -/
def localOut (o : Fin 32) (i : Fin 2048) : EReal :=
  Ideal.tanh (∑ q : Fin 128, localIn chan pos glob wg bg q i * wl q o + bl o)

theorem near_isReal (i k : Fin 2048) : IsReal (near pos i k) := by
  unfold near; split
  · exact .one
  · exact .zero

theorem nearMean_isReal (h : ∀ a i, IsReal (chan a i)) (a : Fin 32) (i : Fin 2048) : IsReal (nearMean chan pos a i) :=
  .div_max_one (.sum _ _ fun k => (near_isReal pos i k).mul (h a k)) (.sum _ _ fun k => near_isReal pos i k)

theorem localIn_isReal (h : ∀ a i, IsReal (chan a i)) (q : Fin 128) (i : Fin 2048) :
    IsReal (localIn chan pos glob wg bg q i) := by
  unfold localIn; split
  · exact h _ _
  split
  · exact nearMean_isReal chan pos h _ _
  · exact .tanh _

end

/-! ## The eight clouds of the arguments -/

section
variable (a0 : (⟨3, ![8, 3, 2048]⟩ : Shape).Idx → EReal) (a1 : (⟨3, ![8, 29, 2048]⟩ : Shape).Idx → EReal)
  (a2 : (⟨2, ![8, 64]⟩ : Shape).Idx → EReal) (a3 : (⟨2, ![96, 128]⟩ : Shape).Idx → EReal)
  (a4 : (⟨1, ![128]⟩ : Shape).Idx → EReal) (a5 : (⟨2, ![128, 32]⟩ : Shape).Idx → EReal) (a6 : (⟨1, ![32]⟩ : Shape).Idx → EReal)

/-- A cloud's channels: its three coordinates, then its 29 features. -/
def chanOf (b : Fin 8) (a : Fin 32) (k : Fin 2048) : EReal :=
  if h : a.val < 3 then a0 (ix3 b ⟨a.val, h⟩ k) else a1 (ix3 b ⟨a.val - 3, by omega⟩ k)

/-- Cloud `b`'s global update. -/
def cloudGlobalOf (b : Fin 8) : Fin 128 → EReal :=
  globalOut (chanOf a0 a1 b) (fun a => a2 (ix2 b a)) (fun a r => a3 (ix2 a r)) (fun r => a4 (ix1 r))

/-- Cloud `b`'s local update. -/
def cloudLocalOf (b : Fin 8) : Fin 32 → Fin 2048 → EReal :=
  localOut (chanOf a0 a1 b) (fun a k => a0 (ix3 b a k)) (fun a => a2 (ix2 b a)) (fun a r => a3 (ix2 a r)) (fun r => a4 (ix1 r))
    (fun q o => a5 (ix2 q o)) (fun o => a6 (ix1 o))

end

end Cert.Proximal
-- ==== Proof.CloudValue.lean ====
/-
  One cloud of the body read at an index: the global update for any values, the local update where positions, features and
  the local weights are real numbers. There the parts the body splits off below the narrow format are zero, so the stacked
  products of 15 and of 384 terms are the plain ones of 5 and of 128.
-/
module

public import proofs.«01_k».proof.Proof.Scores
public import proofs.«01_k».proof.Proof.Spec

@[expose] public section

set_option maxRecDepth 16384

noncomputable section

namespace Cert.KernelIdeal.Cloud

open Cert.KernelIdeal Cert.KernelIdeal.Gen Idealize.ShloMosaic Cert.Proximal
open scoped BigOperators

/-- 384 terms in three parts. -/
theorem sum_three_parts (f : Fin 384 → EReal) : ∑ q, f q = ∑ q : Fin 128, f ⟨q.val, by omega⟩
    + ∑ q : Fin 128, f ⟨128 + q.val, by omega⟩ + ∑ q : Fin 128, f ⟨256 + q.val, by omega⟩ :=
  (Fin.sum_univ_add (a := 256) (b := 128) f).trans
    (congrArg (· + _) (Fin.sum_univ_add (a := 128) (b := 128) fun q => f (Fin.castAdd 128 q)))

section
variable (x : Vec Ideal S1x32x2048 .f32) (p : Vec Ideal S1x3x2048 .f32) (g : Vec Ideal S1x64x1 .f32) (wg : Vec Ideal S128x96 .f32)
  (bg : Vec Ideal S128x1 .f32) (wl : Vec Ideal S32x128 .f32) (bl : Vec Ideal S32x1 .f32)

theorem cloudGlobal_apply (r : Fin 128) : cloudGlobal x g wg bg (ix2 r 0)
    = globalOut (fun a k => x (ix3 0 a k)) (fun a => g (ix3 0 a 0)) (fun a r => wg (ix2 r a)) (fun r => bg (ix2 r 0)) r := by
  pointwise [cloudGlobal, k0_pay5, k0_pay1]
  simp only [globalOut, peak, mul_comm (wg _)]

theorem globalHalf_apply (r : Fin 64) : k0_pay7 x g wg bg (ix2 r 0)
    = globalOut (fun a k => x (ix3 0 a k)) (fun a => g (ix3 0 a 0)) (fun a r => wg (ix2 r a)) (fun r => bg (ix2 r 0))
      ⟨64 + r.val, by omega⟩ := by
  rw [← cloudGlobal_apply]
  pointwise [k0_pay7]
  rfl

theorem means_apply (s : FVec Ideal S33x2048 .f32) (a : Fin 32) (i : Fin 2048) :
    means s (ix2 a i) = Ideal.div (s (ix2 ⟨a.val, by omega⟩ i)) (max (s (ix2 32 i)) 1) := by
  pointwise [means]

theorem stackInput_apply (y m : FVec Ideal S32x2048 .f32) (h : FVec Ideal S64x1 .f32) (q : Fin 128) (i : Fin 2048) :
    stackInput y m h (ix2 q i) = if h' : q.val < 32 then y (ix2 ⟨q.val, h'⟩ i)
      else if h'' : q.val - 32 < 32 then m (ix2 ⟨q.val - 32, h''⟩ i) else h (ix2 ⟨q.val - 32 - 32, by omega⟩ 0) := by
  pointwise [stackInput]

/-- The local layer over real weights and real inputs is the plain product. -/
theorem layer_apply (v : FVec Ideal S128x2048 .f32) (hv : ∀ q i, IsReal (v (ix2 q i))) (hw : ∀ o q, IsReal (wl (ix2 o q)))
    (o : Fin 32) (i : Fin 2048) : k0_pay22 (k0_pay3 wl) (k0_pay4 bl) v (ix2 o i)
      = Ideal.tanh (∑ q : Fin 128, v (ix2 q i) * wl (ix2 o q) + bl (ix2 o 0)) := by
  pointwise [k0_pay22, k0_pay3, k0_pay4]
  rw [sum_three_parts]
  have h₁ (q : Fin 128) : ¬256 + q.val < 128 := by omega
  have h₂ (q : Fin 128) : ¬256 + q.val - 128 < 128 := by omega
  simp [h₁, h₂, (hv _ _).sub_self, (hw _ _).sub_self, mul_comm (wl _)]

end

section
variable {x : Vec Ideal S1x32x2048 .f32} {p : Vec Ideal S1x3x2048 .f32}
  (hx : ∀ a i, IsReal (x (ix3 0 a i))) (hp : ∀ a i, IsReal (p (ix3 0 a i)))
include hp

theorem scoreMask_near (i k : Fin 2048) : scoreMask (leftStack p) (rightStack p) i.val k.val
    = near (fun a k => p (ix3 0 a k)) i k := by
  choose P hP using hp
  rw [scoreMask_eq hP, near]
  refine if_congr ?_ rfl rfl
  simp only [hP, Fin.sum_univ_three, ← EReal.coe_sub, ← EReal.coe_mul, ← EReal.coe_add, EReal.coe_lt_coe_iff]
  rfl

/-- The aggregate's rows: the gathered channels, and the number of neighbours. -/
theorem aggregate_apply (r : Fin 33) (i : Fin 2048) : aggregate (k0_pay8 x) (leftStack p) (rightStack p) (ix2 r i)
    = ∑ k : Fin 2048, near (fun a k => p (ix3 0 a k)) i k * if h : r.val < 32 then x (ix3 0 ⟨r.val, h⟩ k) else 1 := by
  obtain ⟨P, hP⟩ : ∃ P : Fin 3 → Fin 2048 → ℝ, ∀ a i, p (ix3 0 a i) = ((P a i : ℝ) : EReal) :=
    ⟨fun a i => (hp a i).choose, fun a i => (hp a i).choose_spec⟩
  have hsym := scoreMask_symm hP
  rw [isPart_aggregate _ _ _ hsym r i, Nat.zero_add, rowSum, Finset.sum_range]
  refine Finset.sum_congr rfl fun k _ => ?_
  rw [scoreMask_near hp, mul_comm, onNat, dif_pos ⟨r.isLt, k.isLt⟩]
  refine congrArg (near (fun a k => p (ix3 0 a k)) i k * ·) ?_
  pointwise [k0_pay8, k0_pay1]

variable (g : Vec Ideal S1x64x1 .f32) (wg : Vec Ideal S128x96 .f32)
  (bg : Vec Ideal S128x1 .f32) (wl : Vec Ideal S32x128 .f32) (bl : Vec Ideal S32x1 .f32)

theorem cloudInput_apply (q : Fin 128) (i : Fin 2048) : cloudInput x p g wg bg (ix2 q i)
    = localIn (fun a k => x (ix3 0 a k)) (fun a k => p (ix3 0 a k)) (fun a => g (ix3 0 a 0)) (fun a r => wg (ix2 r a))
      (fun r => bg (ix2 r 0)) q i := by
  rw [cloudInput_eq, stackInput_apply, localIn]
  refine dite_congr rfl (fun h => ?_) fun h => dite_congr rfl (fun h' => ?_) fun h' => ?_
  · pointwise [k0_pay1]
  · rw [means_apply, aggregate_apply hp, aggregate_apply hp, nearMean]
    refine congrArg₂ Ideal.div (Finset.sum_congr rfl fun k _ => ?_) (congrArg (max · 1) (Finset.sum_congr rfl fun k _ => ?_))
    · rw [dif_pos (show q.val - 32 < 32 from h')]
    · rw [dif_neg (by decide), mul_one]
  · exact globalHalf_apply x g wg bg _

include hx

/-- **The local update of a cloud**, over real positions, features and local weights. -/
theorem cloudLocal_apply (hw : ∀ o q, IsReal (wl (ix2 o q))) (o : Fin 32) (i : Fin 2048) : cloudLocal x p g wg bg wl bl (ix2 o i)
    = localOut (fun a k => x (ix3 0 a k)) (fun a k => p (ix3 0 a k)) (fun a => g (ix3 0 a 0)) (fun a r => wg (ix2 r a))
      (fun r => bg (ix2 r 0)) (fun q o => wl (ix2 o q)) (fun o => bl (ix2 o 0)) o i := by
  have hv : ∀ q i, IsReal (cloudInput x p g wg bg (ix2 q i)) := fun q i => by
    rw [cloudInput_apply hp]; exact localIn_isReal _ _ _ _ _ hx q i
  rw [cloudLocal, layer_apply _ _ _ hv hw, localOut]
  simp only [cloudInput_apply hp]

end

end Cert.KernelIdeal.Cloud
-- ==== Proof.BlockValue.lean ====
/-
  What the body leaves in its three output blocks, at an index: the cloud of the first coordinate, computed from that
  cloud's slices of the input blocks.
-/
module

public import proofs.«01_k».proof.Proof.CloudValue
public import Idealize.ShloMosaic.Lib.Pipeline.Value

@[expose] public section

set_option maxRecDepth 16384

noncomputable section

namespace Cert.KernelIdeal.Cloud

open Cert.KernelIdeal Cert.KernelIdeal.Gen Idealize.ShloMosaic Cert.Proximal
open scoped BigOperators

/-- `R×n` matrices, `B` of them. -/
abbrev Stack (B R n : Nat) : Shape := ⟨3, ![B, R, n]⟩

/-- The load of one cloud's slice. -/
theorem ld_cloud {R n : Nat} (X : (Stack 4 R n).Idx → EReal) (c : Fin 4)
    (inb : ∀ a, (![c.val, 0, 0] : Fin 3 → Nat) a + (![1, R, n] : Fin 3 → Nat) a ≤ (Stack 4 R n).size a) (a : Fin R) (k : Fin n) :
    View.ld (Val := Elt Ideal) (e' := .f32) X (Rect.unit (s := Stack 4 R n) ![c.val, 0, 0] ![1, R, n] inb) (ix3 0 a k)
      = X (ix3 c a k) := by
  refine congrArg X ?_
  funext d; apply Fin.ext
  match d with
  | ⟨0, _⟩ => rfl
  | ⟨1, _⟩ => exact (Nat.zero_add _).trans (Nat.one_mul _)
  | ⟨2, _⟩ => exact (Nat.zero_add _).trans (Nat.one_mul _)

theorem emb_cloud {R n : Nat} (c : Fin 4)
    (inb : ∀ a, (![c.val, 0, 0] : Fin 3 → Nat) a + (![1, R, n] : Fin 3 → Nat) a ≤ (Stack 4 R n).size a) (a : Fin R) (k : Fin n) :
    (Rect.unit (s := Stack 4 R n) ![c.val, 0, 0] ![1, R, n] inb).emb (ix3 0 a k) = ix3 c a k := by
  funext d; apply Fin.ext
  match d with
  | ⟨0, _⟩ => rfl
  | ⟨1, _⟩ => exact (Nat.zero_add _).trans (Nat.one_mul _)
  | ⟨2, _⟩ => exact (Nat.zero_add _).trans (Nat.one_mul _)

/-- An index with a unit first axis, by its other two coordinates. -/
theorem unit_idx {R n : Nat} (y : (Stack 1 R n).Idx) : y = ix3 0 (y 1) (y 2) := by
  funext d
  match d with
  | ⟨0, _⟩ => exact Subsingleton.elim (α := Fin 1) _ _
  | ⟨1, _⟩ => rfl
  | ⟨2, _⟩ => rfl

/-- Cloud `c`'s slice lies in the block. -/
theorem inBlock (R n : Nat) (c : Fin 4) (a : Fin 3) :
    (![c.val, 0, 0] : Fin 3 → Nat) a + (![1, R, n] : Fin 3 → Nat) a ≤ (Stack 4 R n).size a := by
  match a with
  | ⟨0, _⟩ => exact c.isLt
  | ⟨1, _⟩ => exact (Nat.zero_add _).le
  | ⟨2, _⟩ => exact (Nat.zero_add _).le

/-- Cloud `c`'s slice of a block. -/
abbrev slice (R n : Nat) (c : Fin 4) : Rect (Stack 4 R n) := Rect.unit (s := Stack 4 R n) ![c.val, 0, 0] ![1, R, n] (inBlock R n c)

/-- Four stores, one per cloud, read back at an index. -/
theorem four_pieces {R n : Nat} (P : Fin 4 → (Stack 1 R n).Idx → EReal) (G : Fin 4 → Fin R → Fin n → EReal)
    (hP : ∀ c r k, P c (ix3 0 r k) = G c r k) (y : (Stack 4 R n).Idx)
    (cover : ∃ pc ∈ ([⟨slice R n 3, P 3⟩, ⟨slice R n 2, P 2⟩, ⟨slice R n 1, P 1⟩, ⟨slice R n 0, P 0⟩] :
      List (View.Piece (Elt Ideal) (Stack 4 R n) .f32)), y ∈ pc.1.set) :
    View.canon ([⟨slice R n 3, P 3⟩, ⟨slice R n 2, P 2⟩, ⟨slice R n 1, P 1⟩, ⟨slice R n 0, P 0⟩] :
      List (View.Piece (Elt Ideal) (Stack 4 R n) .f32)) y = G (y 0) (y 1) (y 2) := by
  refine View.canon_apply_of_pieces (Val := Elt Ideal) (e := .f32) (fun y : (Stack 4 R n).Idx => G (y 0) (y 1) (y 2)) _ ?_ y cover
  have piece (c : Fin 4) (z : (Stack 1 R n).Idx) :
      P c z = (fun y : (Stack 4 R n).Idx => G (y 0) (y 1) (y 2)) ((slice R n c).emb z) := by
    obtain ⟨r, k, rfl⟩ : ∃ (r : Fin R) (k : Fin n), z = ix3 0 r k := ⟨z 1, z 2, unit_idx z⟩
    exact (hP c r k).trans (congrArg (fun y : (Stack 4 R n).Idx => G (y 0) (y 1) (y 2)) (emb_cloud c (inBlock R n c) r k).symm)
  intro p hp
  simp only [List.mem_cons, List.not_mem_nil, or_false] at hp
  rcases hp with rfl | rfl | rfl | rfl
  · exact piece 3
  · exact piece 2
  · exact piece 1
  · exact piece 0

section
variable (x0 : Vec Ideal S4x32x2048 .f32) (x1 : Vec Ideal S4x3x2048 .f32) (x2 : Vec Ideal S4x64x1 .f32) (x3 : Vec Ideal S128x96 .f32)
  (x4 : Vec Ideal S128x1 .f32) (x5 : Vec Ideal S32x128 .f32) (x6 : Vec Ideal S32x1 .f32)

/-- The global update of cloud `b` of a block. -/
def blockGlobal (b : Fin 4) : Fin 128 → EReal :=
  globalOut (fun a k => x0 (ix3 b a k)) (fun a => x2 (ix3 b a 0)) (fun a r => x3 (ix2 r a)) (fun r => x4 (ix2 r 0))

/-- The local update of cloud `b` of a block. -/
def blockLocal (b : Fin 4) : Fin 32 → Fin 2048 → EReal :=
  localOut (fun a k => x0 (ix3 b a k)) (fun a k => x1 (ix3 b a k)) (fun a => x2 (ix3 b a 0)) (fun a r => x3 (ix2 r a))
    (fun r => x4 (ix2 r 0)) (fun q o => x5 (ix2 o q)) (fun o => x6 (ix2 o 0))

theorem whole_wg : View.ld x3 r0_3 = x3 := View.ld_unit_zero (by funext a; fin_cases a <;> rfl) _ x3
theorem whole_bg : View.ld x4 r0_4 = x4 := View.ld_unit_zero (by funext a; fin_cases a <;> rfl) _ x4
theorem whole_wl : View.ld x5 r0_5 = x5 := View.ld_unit_zero (by funext a; fin_cases a <;> rfl) _ x5
theorem whole_bl : View.ld x6 r0_6 = x6 := View.ld_unit_zero (by funext a; fin_cases a <;> rfl) _ x6

section
variable (c : Fin 4)
  (ix : ∀ a, (![c.val, 0, 0] : Fin 3 → Nat) a + (![1, 32, 2048] : Fin 3 → Nat) a ≤ (Stack 4 32 2048).size a)
  (ip : ∀ a, (![c.val, 0, 0] : Fin 3 → Nat) a + (![1, 3, 2048] : Fin 3 → Nat) a ≤ (Stack 4 3 2048).size a)
  (ig : ∀ a, (![c.val, 0, 0] : Fin 3 → Nat) a + (![1, 64, 1] : Fin 3 → Nat) a ≤ (Stack 4 64 1).size a)

/-- One cloud's global update, from its slices. -/
theorem sliceGlobal (r : Fin 128) : cloudGlobal (View.ld x0 (Rect.unit (s := S4x32x2048) ![c.val, 0, 0] ![1, 32, 2048] ix))
    (View.ld x2 (Rect.unit (s := S4x64x1) ![c.val, 0, 0] ![1, 64, 1] ig)) (View.ld x3 r0_3) (View.ld x4 r0_4) (ix2 r 0)
      = blockGlobal x0 x2 x3 x4 c r := by
  rw [whole_wg, whole_bg, cloudGlobal_apply, blockGlobal]
  congr 1
  · exact funext fun a => funext fun k => ld_cloud x0 c ix a k
  · exact funext fun a => ld_cloud x2 c ig a 0

/-- One cloud's local update, from its slices. -/
theorem sliceLocal (h0 : ∀ b a k, IsReal (x0 (ix3 b a k))) (h1 : ∀ b a k, IsReal (x1 (ix3 b a k))) (h5 : ∀ o q, IsReal (x5 (ix2 o q)))
    (o : Fin 32) (i : Fin 2048) : cloudLocal (View.ld x0 (Rect.unit (s := S4x32x2048) ![c.val, 0, 0] ![1, 32, 2048] ix))
    (View.ld x1 (Rect.unit (s := S4x3x2048) ![c.val, 0, 0] ![1, 3, 2048] ip))
    (View.ld x2 (Rect.unit (s := S4x64x1) ![c.val, 0, 0] ![1, 64, 1] ig)) (View.ld x3 r0_3) (View.ld x4 r0_4)
    (View.ld x5 r0_5) (View.ld x6 r0_6) (ix2 o i) = blockLocal x0 x1 x2 x3 x4 x5 x6 c o i := by
  have e0 := fun a k => ld_cloud x0 c ix a k
  have e1 := fun a k => ld_cloud x1 c ip a k
  rw [whole_wg, whole_bg, whole_wl, whole_bl, cloudLocal_apply (fun a k => (e0 a k).symm ▸ h0 c a k)
    (fun a k => (e1 a k).symm ▸ h1 c a k) _ _ _ _ _ h5, blockLocal]
  congr 1
  · exact funext fun a => funext fun k => e0 a k
  · exact funext fun a => funext fun k => e1 a k
  · exact funext fun a => ld_cloud x2 c ig a 0

end

/-- Window 9's block: the global updates. -/
theorem out9_apply (y : S4x128x1.Idx) : out0_9 x0 x1 x2 x3 x4 x5 x6 y = blockGlobal x0 x2 x3 x4 (y 0) (y 1) := by
  refine (congrFun (out9_pieces x0 x1 x2 x3 x4 x5 x6) y).trans ?_
  refine four_pieces (R := 128) (n := 1) (fun c => globalPart (cloudGlobal (View.ld x0 (slice 32 2048 c)) (View.ld x2 (slice 64 1 c))
    (View.ld x3 r0_3) (View.ld x4 r0_4))) (fun c r _ => blockGlobal x0 x2 x3 x4 c r) (fun c r k => ?_) y (cover0_9 _ _ _ _ y)
  rw [show k = 0 from Subsingleton.elim (α := Fin 1) _ _, ← sliceGlobal x0 x2 x3 x4 c (inBlock 32 2048 c) (inBlock 64 1 c) r]
  pointwise [globalPart]

variable {x0 x1 x5} (h0 : ∀ b a k, IsReal (x0 (ix3 b a k))) (h1 : ∀ b a k, IsReal (x1 (ix3 b a k))) (h5 : ∀ o q, IsReal (x5 (ix2 o q)))
include h0 h1 h5

/-- Window 7's block: the new positions. -/
theorem out7_apply (y : S4x3x2048.Idx) : out0_7 x0 x1 x2 x3 x4 x5 x6 y
    = blockLocal x0 x1 x2 x3 x4 x5 x6 (y 0) (Fin.castLE (by decide : 3 ≤ 32) (y 1)) (y 2) := by
  refine (congrFun (out7_pieces x0 x1 x2 x3 x4 x5 x6) y).trans ?_
  refine four_pieces (R := 3) (n := 2048) (fun c => posPart (cloudLocal (View.ld x0 (slice 32 2048 c)) (View.ld x1 (slice 3 2048 c))
    (View.ld x2 (slice 64 1 c)) (View.ld x3 r0_3) (View.ld x4 r0_4) (View.ld x5 r0_5) (View.ld x6 r0_6)))
    (fun c r k => blockLocal x0 x1 x2 x3 x4 x5 x6 c (Fin.castLE (by decide : 3 ≤ 32) r) k) (fun c r k => ?_) y (cover0_7 _ _ _ _ y)
  rw [← sliceLocal x0 x1 x2 x3 x4 x5 x6 c (inBlock 32 2048 c) (inBlock 3 2048 c) (inBlock 64 1 c) h0 h1 h5]
  pointwise [posPart]
  rfl

/-- Window 8's block: the new features. -/
theorem out8_apply (y : S4x29x2048.Idx) : out0_8 x0 x1 x2 x3 x4 x5 x6 y
    = blockLocal x0 x1 x2 x3 x4 x5 x6 (y 0) (Fin.natAdd 3 (y 1)) (y 2) := by
  refine (congrFun (out8_pieces x0 x1 x2 x3 x4 x5 x6) y).trans ?_
  refine four_pieces (R := 29) (n := 2048) (fun c => featPart (cloudLocal (View.ld x0 (slice 32 2048 c)) (View.ld x1 (slice 3 2048 c))
    (View.ld x2 (slice 64 1 c)) (View.ld x3 r0_3) (View.ld x4 r0_4) (View.ld x5 r0_5) (View.ld x6 r0_6)))
    (fun c r k => blockLocal x0 x1 x2 x3 x4 x5 x6 c (Fin.natAdd 3 r) k) (fun c r k => ?_) y (cover0_8 _ _ _ _ y)
  rw [← sliceLocal x0 x1 x2 x3 x4 x5 x6 c (inBlock 32 2048 c) (inBlock 3 2048 c) (inBlock 64 1 c) h0 h1 h5]
  pointwise [featPart]
  rfl

end

end Cert.KernelIdeal.Cloud
-- ==== Proof.Blocks.lean ====
/-
  What the body is handed at a grid point: the host's preparation of the arguments, and the input blocks of point `t`
  read at an index. Point `t` works on clouds `4 t` to `4 t + 3`.
-/
module

public import proofs.«01_k».proof.Proof.BlockValue
public import Idealize.ShloMosaic.Lib.Pointwise
public import Idealize.ShloMosaic.Lib.StableHlo.Run

@[expose] public section

set_option maxRecDepth 16384

noncomputable section

namespace Cert.KernelIdeal.Cloud

open Cert.KernelIdeal Cert.KernelIdeal.Gen Idealize.ShloMosaic Idealize.ShloMosaic.TcCoe Cert.Proximal

variable (m : (ℓ : Loc nD τ sig) → Buf (Elt Ideal) ℓ) (c : Dev nD)

/-- The contents of an argument (or of any other buffer) at the launch. -/
abbrev at₀ (b : Ref sig .tc) : Buf (Elt Ideal) ((c : Thread nD τ).loc b) := m ((c : Thread nD τ).loc b)

/-! ## The arrays the host prepares -/

theorem V_points : V m c main_v0 = concatenate S8x32x2048 1 [⟨S8x3x2048, at₀ m c main_arg0⟩, ⟨S8x29x2048, at₀ m c main_arg1⟩]
    concatenates_S8x3x2048_S8x29x2048_S8x32x2048_d1 := by
  simp only [V, V0, hostOps0, List.flatten_cons, List.flatten_nil, List.append_nil]
  after_results_simp <;> rfl

theorem V_globals : V m c main_v1 = broadcastInDim S8x64x1 ![0, 1] bcast_S8x64_S8x64x1_0_1 (at₀ m c main_arg2) := by
  simp only [V, V0, hostOps0, List.flatten_cons, List.flatten_nil, List.append_nil]
  after_results_simp <;> rfl

theorem V_globalWeights : V m c main_v2 = transpose S128x96 [1, 0] (at₀ m c main_arg3) transposes_S96x128_S128x96_1_0 := by
  simp only [V, V0, hostOps0, List.flatten_cons, List.flatten_nil, List.append_nil]
  after_results_simp <;> rfl

theorem V_globalBias : V m c main_v3 = broadcastInDim S128x1 ![0] bcast_S128_S128x1_0 (at₀ m c main_arg4) := by
  simp only [V, V0, hostOps0, List.flatten_cons, List.flatten_nil, List.append_nil]
  after_results_simp <;> rfl

theorem V_localWeights : V m c main_v4 = transpose S32x128 [1, 0] (at₀ m c main_arg5) transposes_S128x32_S32x128_1_0 := by
  simp only [V, V0, hostOps0, List.flatten_cons, List.flatten_nil, List.append_nil]
  after_results_simp <;> rfl

theorem V_localBias : V m c main_v5 = broadcastInDim S32x1 ![0] bcast_S32_S32x1_0 (at₀ m c main_arg6) := by
  simp only [V, V0, hostOps0, List.flatten_cons, List.flatten_nil, List.append_nil]
  after_results_simp <;> rfl

/-! ## The blocks of a grid point -/

/-- Cloud `b` of point `t`'s four. -/
def cloudAt (t : Fin cfg0.N) (b : Fin 4) : Fin 8 := ⟨4 * t.val + b.val, by have h : t.val < 2 := lt_of_lt_of_eq t.isLt N_0; omega⟩

/-- The block index of the six windows on stacks of clouds: the point's number, on the first axis. -/
theorem index_cloud (t : Fin cfg0.N) :
    (win0_0.index t = ![t.val, 0, 0] ∧ win0_1.index t = ![t.val, 0, 0] ∧ win0_2.index t = ![t.val, 0, 0])
    ∧ win0_7.index t = ![t.val, 0, 0] ∧ win0_8.index t = ![t.val, 0, 0] ∧ win0_9.index t = ![t.val, 0, 0] := by
  rcases fin_N0 t with rfl | rfl <;> decide +kernel

/-- The block index of the four windows on whole matrices: zero. -/
theorem index_whole (t : Fin cfg0.N) :
    win0_3.index t = ![0, 0] ∧ win0_4.index t = ![0, 0] ∧ win0_5.index t = ![0, 0] ∧ win0_6.index t = ![0, 0] := by
  rcases fin_N0 t with rfl | rfl <;> decide +kernel

/-- An index that is `t` blocks of four clouds down. -/
theorem cloud_idx {R n : Nat} (t : Fin cfg0.N) (y : (Stack 4 R n).Idx) (z : (Stack 8 R n).Idx) (i : Fin 3 → Nat)
    (hi : i = ![t.val, 0, 0]) (h : ∀ d, (z d : Nat) = i d * (![4, R, n] : Fin 3 → Nat) d + y d) :
    z = ix3 (cloudAt t (y 0)) (y 1) (y 2) := by
  subst hi
  funext d; apply Fin.ext
  match d with
  | ⟨0, _⟩ => exact (h 0).trans (congrArg (· + _) (Nat.mul_comm _ _))
  | ⟨1, _⟩ => exact (h 1).trans ((congrArg (· + _) (Nat.zero_mul _)).trans (Nat.zero_add _))
  | ⟨2, _⟩ => exact (h 2).trans ((congrArg (· + _) (Nat.zero_mul _)).trans (Nat.zero_add _))

theorem whole_idx {R n : Nat} (y z : (Mat R n).Idx) (i : Fin 2 → Nat) (hi : i = ![0, 0])
    (h : ∀ d, (z d : Nat) = i d * (![R, n] : Fin 2 → Nat) d + y d) : z = y := by
  subst hi
  funext d; apply Fin.ext
  match d with
  | ⟨0, _⟩ => exact (h 0).trans ((congrArg (· + _) (Nat.zero_mul _)).trans (Nat.zero_add _))
  | ⟨1, _⟩ => exact (h 1).trans ((congrArg (· + _) (Nat.zero_mul _)).trans (Nat.zero_add _))

theorem emb_points (t : Fin cfg0.N) (y : (Stack 4 32 2048).Idx) :
    ((cfg0.win 0).blk t).view.emb y = ix3 (cloudAt t (y 0)) (y 1) (y 2) :=
  cloud_idx t y _ _ (index_cloud t).1.1 (win0_0.rect_emb_val t y)

theorem emb_positions (t : Fin cfg0.N) (y : (Stack 4 3 2048).Idx) :
    ((cfg0.win 1).blk t).view.emb y = ix3 (cloudAt t (y 0)) (y 1) (y 2) :=
  cloud_idx t y _ _ (index_cloud t).1.2.1 (win0_1.rect_emb_val t y)

theorem emb_globals (t : Fin cfg0.N) (y : (Stack 4 64 1).Idx) :
    ((cfg0.win 2).blk t).view.emb y = ix3 (cloudAt t (y 0)) (y 1) (y 2) :=
  cloud_idx t y _ _ (index_cloud t).1.2.2 (win0_2.rect_emb_val t y)

theorem emb_newPositions (t : Fin cfg0.N) (y : (Stack 4 3 2048).Idx) :
    ((cfg0.win 7).blk t).view.emb y = ix3 (cloudAt t (y 0)) (y 1) (y 2) :=
  cloud_idx t y _ _ (index_cloud t).2.1 (win0_7.rect_emb_val t y)

theorem emb_newFeatures (t : Fin cfg0.N) (y : (Stack 4 29 2048).Idx) :
    ((cfg0.win 8).blk t).view.emb y = ix3 (cloudAt t (y 0)) (y 1) (y 2) :=
  cloud_idx t y _ _ (index_cloud t).2.2.1 (win0_8.rect_emb_val t y)

theorem emb_newGlobals (t : Fin cfg0.N) (y : (Stack 4 128 1).Idx) :
    ((cfg0.win 9).blk t).view.emb y = ix3 (cloudAt t (y 0)) (y 1) (y 2) :=
  cloud_idx t y _ _ (index_cloud t).2.2.2 (win0_9.rect_emb_val t y)

theorem iblk_points (t : Fin cfg0.N) (b : Fin 4) (a : Fin 32) (k : Fin 2048) :
    (iblk m c 0 t : (Stack 4 32 2048).Idx → EReal) (ix3 b a k)
      = chanOf (at₀ m c main_arg0) (at₀ m c main_arg1) (cloudAt t b) a k := by
  show V m c main_v0 (((cfg0.win 0).blk t).view.emb (ix3 b a k)) = _
  rw [emb_points, V_points]
  pointwise [chanOf]

theorem iblk_positions (t : Fin cfg0.N) (b : Fin 4) (a : Fin 3) (k : Fin 2048) :
    (iblk m c 1 t : (Stack 4 3 2048).Idx → EReal) (ix3 b a k) = at₀ m c main_arg0 (ix3 (cloudAt t b) a k) := by
  show V m c main_arg0 (((cfg0.win 1).blk t).view.emb (ix3 b a k)) = _
  rw [emb_positions, V_main_arg0]
  rfl

theorem iblk_globals (t : Fin cfg0.N) (b : Fin 4) (a : Fin 64) :
    (iblk m c 2 t : (Stack 4 64 1).Idx → EReal) (ix3 b a 0) = at₀ m c main_arg2 (ix2 (cloudAt t b) a) := by
  show V m c main_v1 (((cfg0.win 2).blk t).view.emb (ix3 b a 0)) = _
  rw [emb_globals, V_globals]
  pointwise []

theorem iblk_globalWeights (t : Fin cfg0.N) (r : Fin 128) (a : Fin 96) :
    (iblk m c 3 t : (Mat 128 96).Idx → EReal) (ix2 r a) = at₀ m c main_arg3 (ix2 a r) := by
  show V m c main_v2 (((cfg0.win 3).blk t).view.emb (ix2 r a)) = _
  rw [V_globalWeights]
  refine (congrArg _ (whole_idx (ix2 r a) _ _ (index_whole t).1 (win0_3.rect_emb_val t (ix2 r a)))).trans ?_
  pointwise []

theorem iblk_globalBias (t : Fin cfg0.N) (r : Fin 128) :
    (iblk m c 4 t : (Mat 128 1).Idx → EReal) (ix2 r 0) = at₀ m c main_arg4 (ix1 r) := by
  show V m c main_v3 (((cfg0.win 4).blk t).view.emb (ix2 r 0)) = _
  rw [V_globalBias]
  refine (congrArg _ (whole_idx (ix2 r 0) _ _ (index_whole t).2.1 (win0_4.rect_emb_val t (ix2 r 0)))).trans ?_
  pointwise []

theorem iblk_localWeights (t : Fin cfg0.N) (o : Fin 32) (q : Fin 128) :
    (iblk m c 5 t : (Mat 32 128).Idx → EReal) (ix2 o q) = at₀ m c main_arg5 (ix2 q o) := by
  show V m c main_v4 (((cfg0.win 5).blk t).view.emb (ix2 o q)) = _
  rw [V_localWeights]
  refine (congrArg _ (whole_idx (ix2 o q) _ _ (index_whole t).2.2.1 (win0_5.rect_emb_val t (ix2 o q)))).trans ?_
  pointwise []

theorem iblk_localBias (t : Fin cfg0.N) (o : Fin 32) :
    (iblk m c 6 t : (Mat 32 1).Idx → EReal) (ix2 o 0) = at₀ m c main_arg6 (ix1 o) := by
  show V m c main_v5 (((cfg0.win 6).blk t).view.emb (ix2 o 0)) = _
  rw [V_localBias]
  refine (congrArg _ (whole_idx (ix2 o 0) _ _ (index_whole t).2.2.2 (win0_6.rect_emb_val t (ix2 o 0)))).trans ?_
  pointwise []

end Cert.KernelIdeal.Cloud

end
-- ==== Proof.Arrays.lean ====
/-
  The kernel's result arrays after the run, as functions of the arguments: the blocks of the two grid points tile each of
  them, and each block holds the clouds of its point.
-/
module

public import proofs.«01_k».proof.Proof.Blocks

@[expose] public section

set_option maxRecDepth 16384

noncomputable section

namespace Cert.KernelIdeal.Cloud

open Cert.KernelIdeal Cert.KernelIdeal.Gen Idealize.ShloMosaic Idealize.ShloMosaic.TcCoe Cert.Proximal

/-! ## The results, index by index -/

/-- The transformed points of a cloud, all 32 channels of them, from the arguments. -/
abbrev newPoints (m : (ℓ : Loc nD τ sig) → Buf (Elt Ideal) ℓ) (c : Dev nD) : Fin 8 → Fin 32 → Fin 2048 → EReal :=
  cloudLocalOf (at₀ m c main_arg0) (at₀ m c main_arg1) (at₀ m c main_arg2) (at₀ m c main_arg3) (at₀ m c main_arg4)
    (at₀ m c main_arg5) (at₀ m c main_arg6)

/-- The global outputs of a cloud, all 128 of them, from the arguments. -/
abbrev newGlobals (m : (ℓ : Loc nD τ sig) → Buf (Elt Ideal) ℓ) (c : Dev nD) : Fin 8 → Fin 128 → EReal :=
  cloudGlobalOf (at₀ m c main_arg0) (at₀ m c main_arg1) (at₀ m c main_arg2) (at₀ m c main_arg3) (at₀ m c main_arg4)

/-- The first result: the first 3 channels. -/
def positionsOut (m : (ℓ : Loc nD τ sig) → Buf (Elt Ideal) ℓ) (c : Dev nD) (z : (Stack 8 3 2048).Idx) : EReal :=
  newPoints m c (z 0) (Fin.castLE (by decide : 3 ≤ 32) (z 1)) (z 2)

/-- The second result: the other 29 channels. -/
def featuresOut (m : (ℓ : Loc nD τ sig) → Buf (Elt Ideal) ℓ) (c : Dev nD) (z : (Stack 8 29 2048).Idx) : EReal :=
  newPoints m c (z 0) (Fin.natAdd 3 (z 1)) (z 2)

/-- What the third result is cut from. -/
def globalsOut (m : (ℓ : Loc nD τ sig) → Buf (Elt Ideal) ℓ) (c : Dev nD) (z : (Stack 8 128 1).Idx) : EReal :=
  newGlobals m c (z 0) (z 1)

/-- The third result: the first 64 of the 128 global outputs. -/
def globalsKept (m : (ℓ : Loc nD τ sig) → Buf (Elt Ideal) ℓ) (c : Dev nD) (z : (Mat 8 64).Idx) : EReal :=
  newGlobals m c (z 0) (Fin.castLE (by decide : 64 ≤ 128) (z 1))

/-- What the kernel needs of the arguments: real positions, features and weights of the local update. -/
structure RealArgs (m : (ℓ : Loc nD τ sig) → Buf (Elt Ideal) ℓ) (c : Dev nD) : Prop where
  positions : ∀ i : (Stack 8 3 2048).Idx, IsReal (at₀ m c main_arg0 i)
  features : ∀ i : (Stack 8 29 2048).Idx, IsReal (at₀ m c main_arg1 i)
  weights : ∀ i : (Mat 128 32).Idx, IsReal (at₀ m c main_arg5 i)

variable (m : (ℓ : Loc nD τ sig) → Buf (Elt Ideal) ℓ) (c : Dev nD)

theorem RealArgs.chanOf (h : RealArgs m c) (b : Fin 8) (a : Fin 32) (k : Fin 2048) :
    IsReal (chanOf (at₀ m c main_arg0) (at₀ m c main_arg1) b a k) := by
  unfold Proximal.chanOf
  split
  · exact h.positions _
  · exact h.features _

/-! ## A block of the results -/

theorem blockGlobal_eq (t : Fin cfg0.N) (b : Fin 4) (r : Fin 128) :
    blockGlobal (iblk m c 0 t) (iblk m c 2 t) (iblk m c 3 t) (iblk m c 4 t) b r = newGlobals m c (cloudAt t b) r := by
  unfold blockGlobal newGlobals cloudGlobalOf
  simp only [iblk_points, iblk_globals, iblk_globalWeights, iblk_globalBias]

theorem blockLocal_eq (t : Fin cfg0.N) (b : Fin 4) (o : Fin 32) (i : Fin 2048) :
    blockLocal (iblk m c 0 t) (iblk m c 1 t) (iblk m c 2 t) (iblk m c 3 t) (iblk m c 4 t) (iblk m c 5 t) (iblk m c 6 t) b o i
      = newPoints m c (cloudAt t b) o i := by
  unfold blockLocal newPoints cloudLocalOf
  simp only [iblk_points, iblk_positions, iblk_globals, iblk_globalWeights, iblk_globalBias, iblk_localWeights, iblk_localBias]

variable {m c}

theorem flushed_positions (h : RealArgs m c) (t : Fin cfg0.N) :
    (dats m 0 c).flushed 7 t = ((cfg0.win 7).blk t).view.read (Elt Ideal) (positionsOut m c) := by
  show (cfg0.win 7).cut (grid0.coords t) ((dats m 0 c).after 7 t) = _
  rw [after0_7]
  funext y
  show out0_7 (F := Ideal) _ _ _ _ _ _ _ y = positionsOut m c (((cfg0.win 7).blk t).view.emb y)
  rw [emb_newPositions]
  refine (out7_apply _ _ _ _ (fun b a k => ?_) (fun b a k => ?_) (fun o q => ?_) y).trans (blockLocal_eq m c t _ _ _)
  · rw [iblk_points]; exact h.chanOf _ _ _ _ _
  · rw [iblk_positions]; exact h.positions _
  · rw [iblk_localWeights]; exact h.weights _

theorem flushed_features (h : RealArgs m c) (t : Fin cfg0.N) :
    (dats m 0 c).flushed 8 t = ((cfg0.win 8).blk t).view.read (Elt Ideal) (featuresOut m c) := by
  show (cfg0.win 8).cut (grid0.coords t) ((dats m 0 c).after 8 t) = _
  rw [after0_8]
  funext y
  show out0_8 (F := Ideal) _ _ _ _ _ _ _ y = featuresOut m c (((cfg0.win 8).blk t).view.emb y)
  rw [emb_newFeatures]
  refine (out8_apply _ _ _ _ (fun b a k => ?_) (fun b a k => ?_) (fun o q => ?_) y).trans (blockLocal_eq m c t _ _ _)
  · rw [iblk_points]; exact h.chanOf _ _ _ _ _
  · rw [iblk_positions]; exact h.positions _
  · rw [iblk_localWeights]; exact h.weights _

variable (m c)

theorem flushed_globals (t : Fin cfg0.N) :
    (dats m 0 c).flushed 9 t = ((cfg0.win 9).blk t).view.read (Elt Ideal) (globalsOut m c) := by
  show (cfg0.win 9).cut (grid0.coords t) ((dats m 0 c).after 9 t) = _
  rw [after0_9]
  funext y
  show out0_9 (F := Ideal) _ _ _ _ _ _ _ y = globalsOut m c (((cfg0.win 9).blk t).view.emb y)
  rw [emb_newGlobals]
  exact (out9_apply _ _ _ _ _ _ _ y).trans (blockGlobal_eq m c t _ _)

/-! ## The blocks tile the arrays -/

/-- The grid point whose block holds cloud `b`, and its place there. -/
def pointOf (b : Fin 8) : Fin cfg0.N := ⟨b.val / 4, lt_of_lt_of_eq (by omega : b.val / 4 < 2) N_0.symm⟩
def placeOf (b : Fin 8) : Fin 4 := ⟨b.val % 4, Nat.mod_lt _ (by decide)⟩

theorem cloudAt_pointOf (b : Fin 8) : cloudAt (pointOf b) (placeOf b) = b := Fin.ext (Nat.div_add_mod _ _)

/-- An index of a stack of eight clouds, from its cloud's point and place. -/
theorem stack_idx {R n : Nat} (z : (Stack 8 R n).Idx) : ix3 (cloudAt (pointOf (z 0)) (placeOf (z 0))) (z 1) (z 2) = z := by
  refine (congrArg (fun b : Fin 8 => (ix3 b (z 1) (z 2) : (Stack 8 R n).Idx)) (cloudAt_pointOf (z 0))).trans ?_
  funext d
  match d with
  | ⟨0, _⟩ => rfl
  | ⟨1, _⟩ => rfl
  | ⟨2, _⟩ => rfl

theorem covered_positions (z : (Stack 8 3 2048).Idx) :
    ∃ t : Fin cfg0.N, (cfg0.win 7).flush t = true ∧ z ∈ ((cfg0.win 7).blk t).view.set :=
  ⟨pointOf (z 0), flush0_7 _, by
    have h := ((cfg0.win 7).blk (pointOf (z 0))).view.emb_mem_set (ix3 (placeOf (z 0)) (z 1) (z 2))
    rwa [(emb_newPositions (pointOf (z 0)) (ix3 (placeOf (z 0)) (z 1) (z 2))).trans (stack_idx z)] at h⟩

theorem covered_features (z : (Stack 8 29 2048).Idx) :
    ∃ t : Fin cfg0.N, (cfg0.win 8).flush t = true ∧ z ∈ ((cfg0.win 8).blk t).view.set :=
  ⟨pointOf (z 0), flush0_8 _, by
    have h := ((cfg0.win 8).blk (pointOf (z 0))).view.emb_mem_set (ix3 (placeOf (z 0)) (z 1) (z 2))
    rwa [(emb_newFeatures (pointOf (z 0)) (ix3 (placeOf (z 0)) (z 1) (z 2))).trans (stack_idx z)] at h⟩

theorem covered_globals (z : (Stack 8 128 1).Idx) :
    ∃ t : Fin cfg0.N, (cfg0.win 9).flush t = true ∧ z ∈ ((cfg0.win 9).blk t).view.set :=
  ⟨pointOf (z 0), flush0_9 _, by
    have h := ((cfg0.win 9).blk (pointOf (z 0))).view.emb_mem_set (ix3 (placeOf (z 0)) (z 1) (z 2))
    rwa [(emb_newGlobals (pointOf (z 0)) (ix3 (placeOf (z 0)) (z 1) (z 2))).trans (stack_idx z)] at h⟩

/-! ## The arrays after the run -/

theorem final_positions (h : RealArgs m c) : (dats m 0 c).arrAt 7 cfg0.N = positionsOut m c :=
  (dats m 0 c).arrAt_eq_of_cover 7 (positionsOut m c) (fun t _ => flushed_positions h t) covered_positions

theorem final_features (h : RealArgs m c) : (dats m 0 c).arrAt 8 cfg0.N = featuresOut m c :=
  (dats m 0 c).arrAt_eq_of_cover 8 (featuresOut m c) (fun t _ => flushed_features h t) covered_features

theorem final_globals : (dats m 0 c).arrAt 9 cfg0.N = globalsOut m c :=
  (dats m 0 c).arrAt_eq_of_cover 9 (globalsOut m c) (fun t _ => flushed_globals m c t) covered_globals

/-- The ten windows are on ten arrays. -/
theorem arrays_distinct : Function.Injective (Pipeline.arrRef spec0) := by decide

/-- The host keeps the first half of the global outputs, without their unit axis. -/
theorem final_kept : Pipeline.afterTail₀ cfgs (dats m) 0 (V0 m) [hostOps1] c main_v8 = globalsKept m c := by
  have e : Pipeline.withArrays (cfgs 0).spec c (V0 m c) (fun w => (dats m 0 c).arrAt w (cfgs 0).N)
      (Proc.devRef .tc main_v6_2 : DevRef τ sig) = globalsOut m c :=
    (Pipeline.withArrays_arr (cfgs 0).spec arrays_distinct c (V0 m c) (fun w => (dats m 0 c).arrAt w (cfgs 0).N) 9).trans (final_globals m c)
  unfold Pipeline.afterTail₀
  simp only [hostOps1, List.flatten_cons, List.flatten_nil, List.append_nil]
  after_results_simp
  rw [e]
  funext z
  obtain ⟨b, r, rfl⟩ : ∃ b r, z = ix2 b r := ⟨z 0, z 1, by funext d; match d with | ⟨0, _⟩ => rfl | ⟨1, _⟩ => rfl⟩
  pointwise [globalsOut, globalsKept]
  rfl

end Cert.KernelIdeal.Cloud

end
-- ==== Proof.Reference.lean ====
/-
  The reference read at an index: its operations in four groups, each read against the mathematics of one cloud.
-/
module

public import proofs.«01_k».proof.Proof.Gen.ReferenceIdeal.Run
public import proofs.«01_k».proof.Proof.Spec

@[expose] public section

set_option maxRecDepth 16384

noncomputable section

namespace Cert.ReferenceIdeal.Cloud

open Cert.ReferenceIdeal Cert.ReferenceIdeal.Gen Idealize.ShloMosaic Idealize.ShloMosaic.TcCoe Cert.Proximal
open scoped BigOperators

section
variable {F : FTy → Type} [FloatOps F]

/-- The inputs of all the clouds, positions and features. -/
def inputs (a0 : FVec F S8x3x2048 .f32) (a1 : FVec F S8x29x2048 .f32) : FVec F S8x32x2048 .f32 :=
  concatenate S8x32x2048 1 [⟨S8x3x2048, a0⟩, ⟨S8x29x2048, a1⟩] concatenates_S8x3x2048_S8x29x2048_S8x32x2048_d1

/-- The global update's input: the peaks and the global features. -/
def globalIn (x : FVec F S8x32x2048 .f32) (a2 : FVec F S8x64 .f32) : FVec F S8x96 .f32 :=
  concatenate S8x96 1 [⟨S8x32, Host.reduce FloatOps.maximumf x (constant S_ .f32 0xFF800000#32) reducesTo_S8x32x2048_S8x32_d2 h_S_⟩,
    ⟨S8x64, a2⟩] concatenates_S8x32_S8x64_S8x96_d1

def globalAll (x : FVec F S8x32x2048 .f32) (a2 : FVec F S8x64 .f32) (a3 : FVec F S96x128 .f32) (a4 : FVec F S128 .f32) : FVec F S8x128 .f32 :=
  Host.tanh (addf (Host.dotGeneral dot_S8x96_S96x128_S8x128_1_0_0_1_n_n none (globalIn x a2) a3)
    (broadcastInDim S8x128 ![0, 1] bcast_S1x128_S8x128_0_1 (broadcastInDim S1x128 ![1] bcast_S128_S1x128_1 a4)))

/-- The radius mask of all the clouds. -/
def maskAll (a0 : FVec F S8x3x2048 .f32) : FVec F S8x2048x2048 .f32 :=
  let xyz := transpose S8x2048x3 [0, 2, 1] a0 transposes_S8x3x2048_S8x2048x3_0_2_1
  let d := subf (broadcastInDim S8x2048x2048x3 ![0, 1, 2, 3] bcast_S8x2048x1x3_S8x2048x2048x3_0_1_2_3 (broadcastInDim S8x2048x1x3 ![0, 1, 3] bcast_S8x2048x3_S8x2048x1x3_0_1_3 xyz))
    (broadcastInDim S8x2048x2048x3 ![0, 1, 2, 3] bcast_S8x1x2048x3_S8x2048x2048x3_0_1_2_3 (broadcastInDim S8x1x2048x3 ![0, 2, 3] bcast_S8x2048x3_S8x1x2048x3_0_2_3 xyz))
  uitofp .f32 (cmpf .olt (Host.reduceAdd (mulf d d) (constant S_ .f32 0x00000000#32) reducesTo_S8x2048x2048x3_S8x2048x2048_d3 h_S_)
    (broadcastInDim S8x2048x2048 ![] bcast_S_S8x2048x2048 (constant S_ .f32 0x42800000#32)))

def nodes (x : FVec F S8x32x2048 .f32) : FVec F S8x2048x32 .f32 :=
  transpose S8x2048x32 [0, 2, 1] x transposes_S8x32x2048_S8x2048x32_0_2_1

/-- The neighbours' means of all the clouds. -/
def meansAll (x : FVec F S8x32x2048 .f32) (k : FVec F S8x2048x2048 .f32) : FVec F S8x2048x32 .f32 :=
  Host.divf (Host.dotGeneral dot_S8x2048x2048_S8x2048x32_S8x2048x32_2_1_1_2_0_0 none k (nodes x))
    (broadcastInDim S8x2048x32 ![0, 1, 2] bcast_S8x2048x1_S8x2048x32_0_1_2 (maximumf (broadcastInDim S8x2048x1 ![0, 1] bcast_S8x2048_S8x2048x1_0_1
      (Host.reduceAdd k (constant S_ .f32 0x00000000#32) reducesTo_S8x2048x2048_S8x2048_d2 h_S_))
      (broadcastInDim S8x2048x1 ![] bcast_S_S8x2048x1 (constant S_ .f32 0x3F800000#32))))

/-- The local update's input of all the clouds. -/
def localInAll (n m : FVec F S8x2048x32 .f32) (g : FVec F S8x128 .f32) : FVec F S8x2048x128 .f32 :=
  concatenate S8x2048x128 2 [⟨S8x2048x32, n⟩, ⟨S8x2048x32, m⟩, ⟨S8x2048x64, broadcastInDim S8x2048x64 ![0, 1, 2] bcast_S8x1x64_S8x2048x64_0_1_2
    (broadcastInDim S8x1x64 ![0, 2] bcast_S8x64_S8x1x64_0_2 (extractStridedSlice S8x64 ![0, 64] g slices_S8x128_S8x64_0_64))⟩]
    concatenates_S8x2048x32_S8x2048x32_S8x2048x64_S8x2048x128_d2

/-- The local update of all the clouds, node by node. -/
def layerAll (v : FVec F S8x2048x128 .f32) (a5 : FVec F S128x32 .f32) (a6 : FVec F S32 .f32) : FVec F S8x2048x32 .f32 :=
  Host.tanh (addf (Host.dotGeneral dot_S8x2048x128_S128x32_S8x2048x32_2_0_01_1_n_n none v a5)
    (broadcastInDim S8x2048x32 ![0, 1, 2] bcast_S1x1x32_S8x2048x32_0_1_2 (broadcastInDim S1x1x32 ![2] bcast_S32_S1x1x32_2 a6)))

def localAll (a0 : FVec F S8x3x2048 .f32) (a1 : FVec F S8x29x2048 .f32) (a2 : FVec F S8x64 .f32) (a3 : FVec F S96x128 .f32)
    (a4 : FVec F S128 .f32) (a5 : FVec F S128x32 .f32) (a6 : FVec F S32 .f32) : FVec F S8x2048x32 .f32 :=
  layerAll (localInAll (nodes (inputs a0 a1)) (meansAll (inputs a0 a1) (maskAll a0)) (globalAll (inputs a0 a1) a2 a3 a4)) a5 a6

variable (m : (ℓ : Loc nD τ sig) → Buf (Elt F) ℓ) (c : Dev nD)

theorem positions_eq : Value.res_main_v38 m c = transpose S8x3x2048 [0, 2, 1] (extractStridedSlice S8x2048x3 ![0, 0, 0]
    (localAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))) slices_S8x2048x32_S8x2048x3_0_0_0) transposes_S8x2048x3_S8x3x2048_0_2_1 := by
  rfl

theorem features_eq : Value.res_main_v40 m c = transpose S8x29x2048 [0, 2, 1] (extractStridedSlice S8x2048x29 ![0, 0, 3]
    (localAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))) slices_S8x2048x32_S8x2048x29_0_0_3) transposes_S8x2048x29_S8x29x2048_0_2_1 := by
  rfl

end

theorem sixtyFourBits : Ideal.ofBits .f32 0x42800000#32 = ((64 : ℝ) : EReal) := by
  simp [Ideal.ofBits, Ideal.ieee]
  rw [← EReal.coe_mul]; norm_num

/-- The bit of a comparison, converted to a number. -/
theorem bit_number (c : Prop) [Decidable c] :
    (FloatOps.uitofp (F := Ideal) .f32 (BitVec.ofBool (decide c)) : EReal) = if c then 1 else 0 := by
  by_cases h : c <;> simp [h, FloatOps.uitofp]

section
variable (a0 : FVec Ideal S8x3x2048 .f32) (a1 : FVec Ideal S8x29x2048 .f32) (a2 : FVec Ideal S8x64 .f32) (a3 : FVec Ideal S96x128 .f32)
  (a4 : FVec Ideal S128 .f32) (a5 : FVec Ideal S128x32 .f32) (a6 : FVec Ideal S32 .f32)

theorem inputs_apply (b : Fin 8) (a : Fin 32) (k : Fin 2048) : inputs a0 a1 (ix3 b a k) = chanOf a0 a1 b a k := by
  pointwise [inputs]
  rfl

theorem globalAll_apply (b : Fin 8) (r : Fin 128) : globalAll (inputs a0 a1) a2 a3 a4 (ix2 b r) = cloudGlobalOf a0 a1 a2 a3 a4 b r := by
  pointwise [globalAll, globalIn]
  simp only [inputs_apply]
  rfl

theorem maskAll_apply (b : Fin 8) (i k : Fin 2048) : maskAll a0 (ix3 b i k) = near (fun a k => a0 (ix3 b a k)) i k := by
  pointwise [maskAll]
  rw [sixtyFourBits, bit_number]
  rfl

theorem meansAll_apply (b : Fin 8) (i : Fin 2048) (a : Fin 32) : meansAll (inputs a0 a1) (maskAll a0) (ix3 b i a)
    = nearMean (chanOf a0 a1 b) (fun a k => a0 (ix3 b a k)) a i := by
  pointwise [meansAll, nodes]
  simp only [inputs_apply, maskAll_apply]
  rfl

theorem localAll_apply (b : Fin 8) (i : Fin 2048) (o : Fin 32) : localAll a0 a1 a2 a3 a4 a5 a6 (ix3 b i o)
    = cloudLocalOf a0 a1 a2 a3 a4 a5 a6 b o i := by
  pointwise [localAll, layerAll, localInAll, nodes]
  simp only [inputs_apply, meansAll_apply, globalAll_apply]
  rfl

end

end Cert.ReferenceIdeal.Cloud
-- ==== Proof.Results.lean ====
/-
  The two runs with their results as functions of the arguments, index by index.
-/
module

public import proofs.«01_k».proof.Proof.Arrays
public import proofs.«01_k».proof.Proof.Reference

@[expose] public section

set_option maxRecDepth 16384

noncomputable section

namespace Cert.KernelIdeal.Cloud

open Cert.KernelIdeal Cert.KernelIdeal.Gen Idealize.ShloMosaic Idealize.ShloMosaic.TcCoe Idealize.SL.Sem Cert.Proximal

variable (m : (ℓ : Loc nD τ sig) → Buf (Elt Ideal) ℓ) (ρ : Dev nD → PrngReg)

/-- The kernel's run: what the three results hold, and that the arguments are kept. -/
theorem run_results (h : ∀ c, RealArgs m c) : θ_run defs (onTc (τ := τ) (main (F := Ideal))) ⟨m, fun _ => 0, ρ⟩ fun r =>
    ∀ c : Dev nD,
      r.2.mem ((c : Thread nD τ).loc main_v6_0) = positionsOut m c
      ∧ r.2.mem ((c : Thread nD τ).loc main_v6_1) = featuresOut m c
      ∧ r.2.mem ((c : Thread nD τ).loc main_v8) = globalsKept m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ p c =>
    ⟨((p c).1 7).trans (final_positions m c (h c)), ((p c).1 8).trans (final_features m c (h c)),
      ((p c).2 main_v8 (Pipeline.mem_restRefs_of main_v8 (by decide) (by decide))).trans (final_kept m c),
      ((p c).1 1).trans (((dats m 0 c).arrAt_in 1 rfl _).trans ((A_eq m c 1).trans (V_main_arg0 m c))),
      ((p c).2 main_arg1 (Pipeline.mem_restRefs_of main_arg1 (by decide) (by decide))).trans (W_main_arg1 m (dats m) c),
      ((p c).2 main_arg2 (Pipeline.mem_restRefs_of main_arg2 (by decide) (by decide))).trans (W_main_arg2 m (dats m) c),
      ((p c).2 main_arg3 (Pipeline.mem_restRefs_of main_arg3 (by decide) (by decide))).trans (W_main_arg3 m (dats m) c),
      ((p c).2 main_arg4 (Pipeline.mem_restRefs_of main_arg4 (by decide) (by decide))).trans (W_main_arg4 m (dats m) c),
      ((p c).2 main_arg5 (Pipeline.mem_restRefs_of main_arg5 (by decide) (by decide))).trans (W_main_arg5 m (dats m) c),
      ((p c).2 main_arg6 (Pipeline.mem_restRefs_of main_arg6 (by decide) (by decide))).trans (W_main_arg6 m (dats m) c)⟩)
    (run_main m ρ)

end Cert.KernelIdeal.Cloud

namespace Cert.ReferenceIdeal.Cloud

open Cert.ReferenceIdeal Cert.ReferenceIdeal.Gen Idealize.ShloMosaic Idealize.ShloMosaic.TcCoe Idealize.SL.Sem Cert.Proximal

/-- The first 3 channels of an array of points, turned to channel-major. -/
theorem positions_of (X : FVec Ideal S8x2048x32 .f32) (z : S8x3x2048.Idx) :
    transpose S8x3x2048 [0, 2, 1] (extractStridedSlice S8x2048x3 ![0, 0, 0] X slices_S8x2048x32_S8x2048x3_0_0_0)
      transposes_S8x2048x3_S8x3x2048_0_2_1 z = X (ix3 (z 0) (z 2) (Fin.castLE (by decide : 3 ≤ 32) (z 1))) := by
  obtain ⟨b, p, i, rfl⟩ : ∃ b p i, z = ix3 b p i :=
    ⟨z 0, z 1, z 2, by funext d; match d with | ⟨0, _⟩ => rfl | ⟨1, _⟩ => rfl | ⟨2, _⟩ => rfl⟩
  pointwise []
  rfl

/-- The other 29 channels, turned likewise. -/
theorem features_of (X : FVec Ideal S8x2048x32 .f32) (z : S8x29x2048.Idx) :
    transpose S8x29x2048 [0, 2, 1] (extractStridedSlice S8x2048x29 ![0, 0, 3] X slices_S8x2048x32_S8x2048x29_0_0_3)
      transposes_S8x2048x29_S8x29x2048_0_2_1 z = X (ix3 (z 0) (z 2) (Fin.natAdd 3 (z 1))) := by
  obtain ⟨b, p, i, rfl⟩ : ∃ b p i, z = ix3 b p i :=
    ⟨z 0, z 1, z 2, by funext d; match d with | ⟨0, _⟩ => rfl | ⟨1, _⟩ => rfl | ⟨2, _⟩ => rfl⟩
  pointwise []
  rfl

/-- The first 64 of the global outputs. -/
theorem kept_of (X : FVec Ideal S8x128 .f32) (z : S8x64.Idx) :
    extractStridedSlice S8x64 ![0, 0] X slices_S8x128_S8x64_0_0 z = X (ix2 (z 0) (Fin.castLE (by decide : 64 ≤ 128) (z 1))) := by
  obtain ⟨b, r, rfl⟩ : ∃ b r, z = ix2 b r := ⟨z 0, z 1, by funext d; match d with | ⟨0, _⟩ => rfl | ⟨1, _⟩ => rfl⟩
  pointwise []
  rfl

/-- The reference's run from any memory whose arguments are `a0` to `a6`: what its three results hold, and that the
    arguments are kept. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (a0 : FVec Ideal S8x3x2048 .f32) (a1 : FVec Ideal S8x29x2048 .f32) (a2 : FVec Ideal S8x64 .f32)
          (a3 : FVec Ideal S96x128 .f32) (a4 : FVec Ideal S128 .f32) (a5 : FVec Ideal S128x32 .f32) (a6 : FVec Ideal S32 .f32),
        m ((c : Thread nD τ).loc main_arg0) = a0 ∧ m ((c : Thread nD τ).loc main_arg1) = a1
          ∧ m ((c : Thread nD τ).loc main_arg2) = a2 ∧ m ((c : Thread nD τ).loc main_arg3) = a3
          ∧ m ((c : Thread nD τ).loc main_arg4) = a4 ∧ m ((c : Thread nD τ).loc main_arg5) = a5
          ∧ m ((c : Thread nD τ).loc main_arg6) = a6 →
        (r.2.mem ((c : Thread nD τ).loc main_v38)
            = fun z : S8x3x2048.Idx => cloudLocalOf a0 a1 a2 a3 a4 a5 a6 (z 0) (Fin.castLE (by decide : 3 ≤ 32) (z 1)) (z 2))
        ∧ (r.2.mem ((c : Thread nD τ).loc main_v40)
            = fun z : S8x29x2048.Idx => cloudLocalOf a0 a1 a2 a3 a4 a5 a6 (z 0) (Fin.natAdd 3 (z 1)) (z 2))
        ∧ r.2.mem ((c : Thread nD τ).loc main_v8)
            = fun z : S8x64.Idx => cloudGlobalOf a0 a1 a2 a3 a4 (z 0) (Fin.castLE (by decide : 64 ≤ 128) (z 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨e38, e40, e8, kept⟩ := h c
    refine ⟨?_, kept⟩
    rintro a0 a1 a2 a3 a4 a5 a6 ⟨rfl, rfl, rfl, rfl, rfl, rfl, rfl⟩
    refine ⟨e38.trans ((positions_eq m c).trans (funext fun z => ?_)), e40.trans ((features_eq m c).trans (funext fun z => ?_)),
      e8.trans (funext fun z => ?_)⟩
    · exact (positions_of _ z).trans (localAll_apply _ _ _ _ _ _ _ _ _ _)
    · exact (features_of _ z).trans (localAll_apply _ _ _ _ _ _ _ _ _ _)
    · exact (kept_of (globalAll (inputs _ _) _ _ _) z).trans (globalAll_apply _ _ _ _ _ _ _)) (Value.run (F := Ideal) m ρ)

end Cert.ReferenceIdeal.Cloud

end
-- ==== Proof.Finite.lean ====
/-
  What the precondition says: every position, every feature and every weight of the local update is a real number.
-/
module

public import proofs.«01_k».proof.Proof.Spec
public import proofs.«01_k».proof.Pre_finite_clouds
public import Idealize.ShloMosaic.Lib.ReduceAll
public import Idealize.ShloMosaic.Lib.Affine
public import Idealize.ShloMosaic.Lib.Pointwise

@[expose] public section

set_option maxRecDepth 16384

noncomputable section

namespace Cert.Pre_finite_clouds

open Idealize.ShloMosaic Cert.Proximal

/-- The shape relations the precondition's operations take. -/
theorem facts : Facts where
  bcast_S_S8x3x2048 := by decide
  reducesTo_S8x3x2048_S_d0_1_2 := by decide
  h_S_ := by decide
  bcast_S_S8x29x2048 := by decide
  reducesTo_S8x29x2048_S_d0_1_2 := by decide
  bcast_S_S128x32 := by decide
  reducesTo_S128x32_S_d0_1 := by decide

theorem infBits : Ideal.ofBits .f32 0x7F800000#32 = ⊤ := by
  simp [Ideal.ofBits, Ideal.ieee]

/-- An extended real whose absolute value is below infinity is real. -/
theorem isReal_of_abs_lt (x : EReal) (h : max x (-x) < ⊤) : IsReal x := by
  induction x with
  | bot => simp at h
  | coe r => exact ⟨r, rfl⟩
  | top => simp at h

/-- The test of one element. -/
theorem isReal_of_test {s : Shape} (x : FVec Ideal s .f32) (b : (⟨0, ![]⟩ : Shape).BroadcastsInDim s (![] : Fin 0 → Fin s.rank))
    (i : s.Idx) (h : cmpf .olt (Host.absf x) (broadcastInDim s ![] b (constant ⟨0, ![]⟩ .f32 0x7F800000#32)) i = 1#1) :
    IsReal (x i : EReal) := by
  refine isReal_of_abs_lt _ ?_
  have e : BitVec.ofBool (decide (max (x i : EReal) (-(x i : EReal)) < Ideal.ofBits .f32 0x7F800000#32)) = 1#1 := h
  rw [infBits] at e
  by_contra hn
  simp [hn] at e

variable [Facts]

theorem real_of_fn (x0 : FVec Ideal S8x3x2048 .f32) (x1 : FVec Ideal S8x29x2048 .f32) (x2 : FVec Ideal S8x64 .f32)
    (x3 : FVec Ideal S96x128 .f32) (x4 : FVec Ideal S128 .f32) (x5 : FVec Ideal S128x32 .f32) (x6 : FVec Ideal S32 .f32)
    (h : fn x0 x1 x2 x3 x4 x5 x6 = fun _ => 1#1) :
    (∀ i, IsReal (x0 i : EReal)) ∧ (∀ i, IsReal (x1 i : EReal)) ∧ ∀ i, IsReal (x5 i : EReal) := by
  haveI : Subsingleton S_.Idx := ⟨fun a b => funext fun d => d.elim0⟩
  obtain ⟨h01, h5⟩ := IntOp.andi_eq_one.1 (congrFun h (fun d => d.elim0))
  obtain ⟨h0, h1⟩ := IntOp.andi_eq_one.1 h01
  exact ⟨fun i => isReal_of_test x0 _ i (Host.reduce_andi_all _ _ _ _ _ h0 i),
    fun i => isReal_of_test x1 _ i (Host.reduce_andi_all _ _ _ _ _ h1 i),
    fun i => isReal_of_test x5 _ i (Host.reduce_andi_all _ _ _ _ _ h5 i)⟩

end Cert.Pre_finite_clouds

end
-- ==== Proof.Algebraic.lean ====
/-
  The algebraic claim: on real positions, features and local weights the idealized kernel and the idealized reference
  leave the same three results.
-/
module

public import proofs.«01_k».proof.Defs
public import proofs.«01_k».proof.Proof.Results
public import proofs.«01_k».proof.Proof.Finite

@[expose] public section

set_option maxRecDepth 16384

noncomputable section

namespace Cert.Proof

open Idealize.ShloMosaic Idealize.ShloMosaic.TcCoe Idealize.SL.Sem

/-- The precondition makes the kernel's arguments real where it needs them. -/
theorem realArgs [Cert.Pre_finite_clouds.Facts]
    (m : (ℓ : Loc Cert.KernelIdeal.nD Cert.KernelIdeal.τ Cert.KernelIdeal.sig) → Buf (Elt Ideal) ℓ)
    (h : Cert.Pre_KernelIdeal_finite_clouds m) (c : Dev Cert.KernelIdeal.nD) : Cert.KernelIdeal.Cloud.RealArgs m c :=
  have p := Cert.Pre_finite_clouds.real_of_fn _ _ _ _ _ _ _ (h c)
  ⟨p.1, p.2.1, p.2.2⟩

theorem algebraic : Cert.algebraic_KernelIdeal_ReferenceIdeal_pre_finite_clouds
    (hKernelIdeal := Cert.KernelIdeal.Gen.facts) (hReferenceIdeal := Cert.ReferenceIdeal.Gen.facts)
    (hPre_finite_clouds := Cert.Pre_finite_clouds.facts) := fun m g m' g' hpre hargs =>
  letI := Cert.Pre_finite_clouds.facts
  ⟨Cert.KernelIdeal.Cloud.positionsOut m, Cert.KernelIdeal.Cloud.featuresOut m, Cert.KernelIdeal.Cloud.globalsKept m,
    Cert.KernelIdeal.Cloud.run_results m g (realArgs m hpre),
    (θ_run Cert.ReferenceIdeal.defs _ _).mono
      (fun _ h c =>
        have e := (h c).1 _ _ _ _ _ _ _ (hargs c)
        ⟨e.1, e.2.1, e.2.2, (h c).2⟩)
      (Cert.ReferenceIdeal.Cloud.run_results m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_clouds.facts,
    frame_kernel, frame_kernelIdeal, letI := Cert.Pre_finite_clouds.facts; frame_kernelIdeal_pre,
    frame_referenceIdeal, letI := Cert.Pre_finite_clouds.facts; frame_referenceIdeal_pre, trivial, algebraic⟩

end Cert.Proof

end
